-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v575) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_inputs_finite : Cert.Pre_inputs_finite.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
-- ==== Pre_inputs_finite.lean ====
abbrev S10000x128 : Shape := ⟨2, ![10000, 128]⟩
abbrev S10000x10000 : Shape := ⟨2, ![10000, 10000]⟩
abbrev S4x12x10000 : Shape := ⟨3, ![4, 12, 10000]⟩
abbrev S64x128 : Shape := ⟨2, ![64, 128]⟩
abbrev S64 : Shape := ⟨1, ![64]⟩
abbrev S64x64 : Shape := ⟨2, ![64, 64]⟩
abbrev S1 : Shape := ⟨1, ![1]⟩
abbrev S65x128 : Shape := ⟨2, ![65, 128]⟩
abbrev S128 : Shape := ⟨1, ![128]⟩
abbrev S65x64 : Shape := ⟨2, ![65, 64]⟩
abbrev S_ : Shape := ⟨0, ![]⟩

class Facts : Prop where
  bcast_S_S10000x128 : S_.BroadcastsInDim S10000x128 (![] : Fin 0 → Fin S10000x128.rank)
  bcast_S_S10000x10000 : S_.BroadcastsInDim S10000x10000 (![] : Fin 0 → Fin S10000x10000.rank)
  bcast_S_S64x128 : S_.BroadcastsInDim S64x128 (![] : Fin 0 → Fin S64x128.rank)
  bcast_S_S64 : S_.BroadcastsInDim S64 (![] : Fin 0 → Fin S64.rank)
  bcast_S_S1 : S_.BroadcastsInDim S1 (![] : Fin 0 → Fin S1.rank)

variable [Facts]

def fn {F : FTy → Type} [FloatOps F] (main_arg0 : FVec F S10000x128 .f32) (main_arg1 : FVec F S10000x10000 .f32) (main_arg2 : FVec F S4x12x10000 .f32) (main_arg3 : FVec F S64x128 .f32) (main_arg4 : FVec F S64 .f32) (main_arg5 : FVec F S64x64 .f32) (main_arg6 : FVec F S64 .f32) (main_arg7 : FVec F S64 .f32) (main_arg8 : FVec F S64 .f32) (main_arg9 : FVec F S1 .f32) (main_arg10 : FVec F S65x128 .f32) (main_arg11 : FVec F S128 .f32) (main_arg12 : FVec F S65x64 .f32) (main_arg13 : FVec F S64 .f32) (main_arg14 : FVec F S64x64 .f32) (main_arg15 : FVec F S1 .f32) (main_arg16 : FVec F S64x128 .f32) (main_arg17 : FVec F S64 .f32) : IVec S10000x128 1 × IVec S10000x10000 1 × IVec S64x128 1 × IVec S64 1 × IVec S1 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_v3 : FVec F S10000x10000 .f32 := Host.absf main_arg1
  let main_cst_0 : FVec F S_ .f32 := constant S_ .f32 0x7F800000#32
  let main_v4 : FVec F S10000x10000 .f32 := broadcastInDim S10000x10000 ![] bcast_S_S10000x10000 main_cst_0
  let main_v5 : IVec S10000x10000 1 := cmpf .olt main_v3 main_v4
  let main_v6 : FVec F S64x128 .f32 := Host.absf main_arg3
  let main_cst_1 : FVec F S_ .f32 := constant S_ .f32 0x7F800000#32
  let main_v7 : FVec F S64x128 .f32 := broadcastInDim S64x128 ![] bcast_S_S64x128 main_cst_1
  let main_v8 : IVec S64x128 1 := cmpf .olt main_v6 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S1 .f32 := Host.absf main_arg9
  let main_cst_3 : FVec F S_ .f32 := constant S_ .f32 0x7F800000#32
  let main_v13 : FVec F S1 .f32 := broadcastInDim S1 ![] bcast_S_S1 main_cst_3
  let main_v14 : IVec S1 1 := cmpf .olt main_v12 main_v13
  (main_v2, main_v5, main_v8, main_v11, main_v14)
-- ==== Kernel.lean ====
abbrev S10000x128 : Shape := ⟨2, ![10000, 128]⟩
abbrev S10000x10000 : Shape := ⟨2, ![10000, 10000]⟩
abbrev S4x12x10000 : Shape := ⟨3, ![4, 12, 10000]⟩
abbrev S64x128 : Shape := ⟨2, ![64, 128]⟩
abbrev S64 : Shape := ⟨1, ![64]⟩
abbrev S64x64 : Shape := ⟨2, ![64, 64]⟩
abbrev S1 : Shape := ⟨1, ![1]⟩
abbrev S65x128 : Shape := ⟨2, ![65, 128]⟩
abbrev S128 : Shape := ⟨1, ![128]⟩
abbrev S65x64 : Shape := ⟨2, ![65, 64]⟩
abbrev S128x64 : Shape := ⟨2, ![128, 64]⟩
abbrev S1x64 : Shape := ⟨2, ![1, 64]⟩
abbrev S10000x64 : Shape := ⟨2, ![10000, 64]⟩
abbrev S400x10000 : Shape := ⟨2, ![400, 10000]⟩
abbrev S8x64 : Shape := ⟨2, ![8, 64]⟩
abbrev S10000x1 : Shape := ⟨2, ![10000, 1]⟩
abbrev S10000x63 : Shape := ⟨2, ![10000, 63]⟩
abbrev S400x128 : Shape := ⟨2, ![400, 128]⟩
abbrev S400x64 : Shape := ⟨2, ![400, 64]⟩
abbrev S400x1 : Shape := ⟨2, ![400, 1]⟩
abbrev S12x4x10000 : Shape := ⟨3, ![12, 4, 10000]⟩
abbrev S1x128 : Shape := ⟨2, ![1, 128]⟩
abbrev S40000x64 : Shape := ⟨2, ![40000, 64]⟩
abbrev S1x1x10000 : Shape := ⟨3, ![1, 1, 10000]⟩
abbrev S1x10000 : Shape := ⟨2, ![1, 10000]⟩
abbrev S5000x128 : Shape := ⟨2, ![5000, 128]⟩
abbrev S5000x64 : Shape := ⟨2, ![5000, 64]⟩
abbrev S4x10000x64 : Shape := ⟨3, ![4, 10000, 64]⟩

abbrev nBuf : Space → Nat
  | .hbm => 39
  | .vmem => 30
  | .smem => 2
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S4x12x10000, .f32⟩
  | .hbm, ⟨3, _⟩ => ⟨S64x128, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S1, .f32⟩
  | .hbm, ⟨10, _⟩ => ⟨S65x128, .f32⟩
  | .hbm, ⟨11, _⟩ => ⟨S128, .f32⟩
  | .hbm, ⟨12, _⟩ => ⟨S65x64, .f32⟩
  | .hbm, ⟨13, _⟩ => ⟨S64, .f32⟩
  | .hbm, ⟨14, _⟩ => ⟨S64x64, .f32⟩
  | .hbm, ⟨15, _⟩ => ⟨S1, .f32⟩
  | .hbm, ⟨16, _⟩ => ⟨S64x128, .f32⟩
  | .hbm, ⟨17, _⟩ => ⟨S64, .f32⟩
  | .hbm, ⟨18, _⟩ => ⟨S128x64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S64x64, .f32⟩
  | .hbm, ⟨23, _⟩ => ⟨S1x64, .f32⟩
  | .hbm, ⟨24, _⟩ => ⟨S64x64, .f32⟩
  | .hbm, ⟨25, _⟩ => ⟨S64x64, .f32⟩
  | .hbm, ⟨26, _⟩ => ⟨S1x64, .f32⟩
  | .hbm, ⟨27, _⟩ => ⟨S10000x64, .f32⟩
  | .hbm, ⟨28, _⟩ => ⟨S12x4x10000, .f32⟩
  | .hbm, ⟨29, _⟩ => ⟨S64x128, .f32⟩
  | .hbm, ⟨30, _⟩ => ⟨S1x128, .f32⟩
  | .hbm, ⟨31, _⟩ => ⟨S1x128, .f32⟩
  | .hbm, ⟨32, _⟩ => ⟨S64x64, .f32⟩
  | .hbm, ⟨33, _⟩ => ⟨S1x64, .f32⟩
  | .hbm, ⟨34, _⟩ => ⟨S1x64, .f32⟩
  | .hbm, ⟨35, _⟩ => ⟨S64x64, .f32⟩
  | .hbm, ⟨36, _⟩ => ⟨S64x64, .f32⟩
  | .hbm, ⟨37, _⟩ => ⟨S40000x64, .f32⟩
  | .hbm, ⟨38, _⟩ => ⟨S4x10000x64, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S64x64, .f32⟩
  | .local _ .vmem, ⟨8, _⟩ => ⟨S1x64, .f32⟩
  | .local _ .vmem, ⟨9, _⟩ => ⟨S64x64, .f32⟩
  | .local _ .vmem, ⟨10, _⟩ => ⟨S64x64, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x128, .bf16⟩
  | .local _ .vmem, ⟨15, _⟩ => ⟨S10000x64, .f32⟩
  | .local _ .vmem, ⟨16, _⟩ => ⟨S8x64, .f32⟩
  | .local _ .vmem, ⟨17, _⟩ => ⟨S12x4x10000, .f32⟩
  | .local _ .vmem, ⟨18, _⟩ => ⟨S10000x64, .f32⟩
  | .local _ .vmem, ⟨19, _⟩ => ⟨S64x128, .f32⟩
  | .local _ .vmem, ⟨20, _⟩ => ⟨S1x128, .f32⟩
  | .local _ .vmem, ⟨21, _⟩ => ⟨S1x128, .f32⟩
  | .local _ .vmem, ⟨22, _⟩ => ⟨S64x64, .f32⟩
  | .local _ .vmem, ⟨23, _⟩ => ⟨S1x64, .f32⟩
  | .local _ .vmem, ⟨24, _⟩ => ⟨S1x64, .f32⟩
  | .local _ .vmem, ⟨25, _⟩ => ⟨S64x64, .f32⟩
  | .local _ .vmem, ⟨26, _⟩ => ⟨S40000x64, .f32⟩
  | .local _ .vmem, ⟨27, _⟩ => ⟨S10000x128, .bf16⟩
  | .local _ .vmem, ⟨28, _⟩ => ⟨S10000x64, .f32⟩
  | .local _ .vmem, ⟨29, _⟩ => ⟨S10000x64, .f32⟩
  | .local _ .smem, ⟨0, _⟩ => ⟨S1, .f32⟩
  | .local _ .smem, ⟨1, _⟩ => ⟨S1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc1_stg0_0 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_scratch0 : Ref sig .tc := ⟨.vmem, 27, rfl⟩
abbrev cc1_scratch1 : Ref sig .tc := ⟨.vmem, 28, rfl⟩
abbrev cc1_scratch2 : Ref sig .tc := ⟨.vmem, 29, rfl⟩
abbrev cc0_stg4_0 : Ref sig .tc := ⟨.smem, 0, rfl⟩
abbrev cc0_stg10_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc1_sem0_0 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v13 : BitVec 32 := Scalar.muli arg0 c400_i32
  let v14 : Index := Scalar.indexCast v13
  let c0_6 : Index := 0#32
  ![v14.toNat, 0]
def k0_cond2 (i : grid0.Coords) : BitVec 1 :=
  let arg0 : BitVec 32 := BitVec.ofNat 32 (i 0).val
  let c24_i32 : BitVec 32 := 24#32
  let v42 : BitVec 1 := Scalar.cmpi .eq arg0 c24_i32
  let v43 : BitVec 32 := Scalar.extui v42
  let c0_i32_19 : BitVec 32 := 0#32
  let v44 : BitVec 1 := Scalar.cmpi .ne v43 c0_i32_19
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .smem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S10000x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev grid1 : Pipeline.Grid := ⟨1, ![12], ![false]⟩

def k1_off1 (i : grid1.Coords) : Fin 3 → Nat :=
  let arg0 : BitVec 32 := BitVec.ofNat 32 (i 0).val
  let v7 : Index := Scalar.indexCast arg0
  let c0_4 : Index := 0#32
  let c0_5 : Index := 0#32
  ![v7.toNat, 0, 0]
def k1_off2 (i : grid1.Coords) : Fin 3 → Nat :=
  let arg0 : BitVec 32 := BitVec.ofNat 32 (i 0).val
  let v85 : Index := Scalar.indexCast arg0
  let c1_44 : Index := 1#32
  let c0_45 : Index := 0#32
  ![v85.toNat, 1, 0]
def k1_off3 (i : grid1.Coords) : Fin 3 → Nat :=
  let arg0 : BitVec 32 := BitVec.ofNat 32 (i 0).val
  let v163 : Index := Scalar.indexCast arg0
  let c2 : Index := 2#32
  let c0_87 : Index := 0#32
  ![v163.toNat, 2, 0]
def k1_off4 (i : grid1.Coords) : Fin 3 → Nat :=
  let arg0 : BitVec 32 := BitVec.ofNat 32 (i 0).val
  let v241 : Index := Scalar.indexCast arg0
  let c3 : Index := 3#32
  let c0_129 : Index := 0#32
  ![v241.toNat, 3, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S12x4x10000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S40000x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== ReferenceIdeal.lean ====
abbrev S10000x128 : Shape := ⟨2, ![10000, 128]⟩
abbrev S10000x10000 : Shape := ⟨2, ![10000, 10000]⟩
abbrev S4x12x10000 : Shape := ⟨3, ![4, 12, 10000]⟩
abbrev S64x128 : Shape := ⟨2, ![64, 128]⟩
abbrev S64 : Shape := ⟨1, ![64]⟩
abbrev S64x64 : Shape := ⟨2, ![64, 64]⟩
abbrev S1 : Shape := ⟨1, ![1]⟩
abbrev S65x128 : Shape := ⟨2, ![65, 128]⟩
abbrev S128 : Shape := ⟨1, ![128]⟩
abbrev S65x64 : Shape := ⟨2, ![65, 64]⟩
abbrev S128x64 : Shape := ⟨2, ![128, 64]⟩
abbrev S10000x64 : Shape := ⟨2, ![10000, 64]⟩
abbrev S1x64 : Shape := ⟨2, ![1, 64]⟩
abbrev S_ : Shape := ⟨0, ![]⟩
abbrev S10000x1 : Shape := ⟨2, ![10000, 1]⟩
abbrev S1x1 : Shape := ⟨2, ![1, 1]⟩
abbrev S1x10000x64 : Shape := ⟨3, ![1, 10000, 64]⟩
abbrev S4x10000x64 : Shape := ⟨3, ![4, 10000, 64]⟩
abbrev S40000x64 : Shape := ⟨2, ![40000, 64]⟩
abbrev S4x640000 : Shape := ⟨2, ![4, 640000]⟩
abbrev S4x1x10000 : Shape := ⟨3, ![4, 1, 10000]⟩
abbrev S4x10000 : Shape := ⟨2, ![4, 10000]⟩
abbrev S4x10000x1 : Shape := ⟨3, ![4, 10000, 1]⟩
abbrev S4x10000x65 : Shape := ⟨3, ![4, 10000, 65]⟩
abbrev S40000x65 : Shape := ⟨2, ![40000, 65]⟩
abbrev S40000x128 : Shape := ⟨2, ![40000, 128]⟩
abbrev S1x128 : Shape := ⟨2, ![1, 128]⟩
abbrev S4x1280000 : Shape := ⟨2, ![4, 1280000]⟩

abbrev nBuf : Space → Nat
  | .hbm => 661
  | .vmem => 0
  | .smem => 0
  | _ => 0

abbrev hbmTy0_0 (i : Nat) : BufTy := match i % 128 with
  | 0 => ⟨S10000x128, .f32⟩
  | 1 => ⟨S10000x10000, .f32⟩
  | 2 => ⟨S4x12x10000, .f32⟩
  | 3 => ⟨S64x128, .f32⟩
  | 4 => ⟨S64, .f32⟩
  | 5 => ⟨S64x64, .f32⟩
  | 6 => ⟨S64, .f32⟩
  | 7 => ⟨S64, .f32⟩
  | 8 => ⟨S64, .f32⟩
  | 9 => ⟨S1, .f32⟩
  | 10 => ⟨S65x128, .f32⟩
  | 11 => ⟨S128, .f32⟩
  | 12 => ⟨S65x64, .f32⟩
  | 13 => ⟨S64, .f32⟩
  | 14 => ⟨S64x64, .f32⟩
  | 15 => ⟨S1, .f32⟩
  | 16 => ⟨S64x128, .f32⟩
  | 17 => ⟨S64, .f32⟩
  | 18 => ⟨S128x64, .f32⟩
  | 19 => ⟨S10000x64, .f32⟩
  | 20 => ⟨S1x64, .f32⟩
  | 21 => ⟨S10000x64, .f32⟩
  | 22 => ⟨S10000x64, .f32⟩
  | 23 => ⟨S10000x64, .f32⟩
  | 24 => ⟨S_, .f32⟩
  | 25 => ⟨S10000x1, .f32⟩
  | 26 => ⟨S10000x1, .f32⟩
  | 27 => ⟨S_, .f32⟩
  | 28 => ⟨S10000x1, .f32⟩
  | 29 => ⟨S10000x1, .i1⟩
  | 30 => ⟨S_, .f32⟩
  | 31 => ⟨S10000x1, .f32⟩
  | 32 => ⟨S10000x1, .f32⟩
  | 33 => ⟨S10000x64, .f32⟩
  | 34 => ⟨S10000x64, .f32⟩
  | 35 => ⟨S1x1, .f32⟩
  | 36 => ⟨S10000x64, .f32⟩
  | 37 => ⟨S10000x64, .f32⟩
  | 38 => ⟨S10000x64, .f32⟩
  | 39 => ⟨S_, .f32⟩
  | 40 => ⟨S64, .f32⟩
  | 41 => ⟨S1x64, .f32⟩
  | 42 => ⟨S_, .f32⟩
  | 43 => ⟨S1x64, .f32⟩
  | 44 => ⟨S1x64, .f32⟩
  | 45 => ⟨S_, .i32⟩
  | 46 => ⟨S_, .f32⟩
  | 47 => ⟨S64, .f32⟩
  | 48 => ⟨S1x64, .f32⟩
  | 49 => ⟨S_, .f32⟩
  | 50 => ⟨S1x64, .f32⟩
  | 51 => ⟨S1x64, .f32⟩
  | 52 => ⟨S10000x64, .f32⟩
  | 53 => ⟨S10000x64, .f32⟩
  | 54 => ⟨S10000x64, .f32⟩
  | 55 => ⟨S_, .f32⟩
  | 56 => ⟨S_, .f32⟩
  | 57 => ⟨S_, .f32⟩
  | 58 => ⟨S_, .f32⟩
  | 59 => ⟨S64, .f32⟩
  | 60 => ⟨S1x64, .f32⟩
  | 61 => ⟨S1x64, .f32⟩
  | 62 => ⟨S1x64, .f32⟩
  | 63 => ⟨S_, .f32⟩
  | 64 => ⟨S_, .i1⟩
  | 65 => ⟨S_, .f32⟩
  | 66 => ⟨S_, .f32⟩
  | 67 => ⟨S1x64, .f32⟩
  | 68 => ⟨S1x64, .f32⟩
  | 69 => ⟨S10000x64, .f32⟩
  | 70 => ⟨S10000x64, .f32⟩
  | 71 => ⟨S_, .f32⟩
  | 72 => ⟨S1x64, .f32⟩
  | 73 => ⟨S1x64, .f32⟩
  | 74 => ⟨S1x64, .f32⟩
  | 75 => ⟨S10000x64, .f32⟩
  | 76 => ⟨S10000x64, .f32⟩
  | 77 => ⟨S1x64, .f32⟩
  | 78 => ⟨S10000x64, .f32⟩
  | 79 => ⟨S10000x64, .f32⟩
  | 80 => ⟨S1x64, .f32⟩
  | 81 => ⟨S10000x64, .f32⟩
  | 82 => ⟨S10000x64, .f32⟩
  | 83 => ⟨S64x64, .f32⟩
  | 84 => ⟨S10000x64, .f32⟩
  | 85 => ⟨S1x64, .f32⟩
  | 86 => ⟨S10000x64, .f32⟩
  | 87 => ⟨S10000x64, .f32⟩
  | 88 => ⟨S1x10000x64, .f32⟩
  | 89 => ⟨S4x10000x64, .f32⟩
  | 90 => ⟨S40000x64, .f32⟩
  | 91 => ⟨S40000x64, .f32⟩
  | 92 => ⟨S1x1, .f32⟩
  | 93 => ⟨S40000x64, .f32⟩
  | 94 => ⟨S40000x64, .f32⟩
  | 95 => ⟨S_, .f32⟩
  | 96 => ⟨S4x640000, .f32⟩
  | 97 => ⟨S4x1x10000, .f32⟩
  | 98 => ⟨S4x10000, .f32⟩
  | 99 => ⟨S4x10000x1, .f32⟩
  | 100 => ⟨S4x10000x64, .f32⟩
  | 101 => ⟨S4x10000x65, .f32⟩
  | 102 => ⟨S40000x65, .f32⟩
  | 103 => ⟨S40000x128, .f32⟩
  | 104 => ⟨S1x128, .f32⟩
  | 105 => ⟨S40000x128, .f32⟩
  | 106 => ⟨S40000x128, .f32⟩
  | 107 => ⟨S4x1280000, .f32⟩
  | 108 => ⟨S4x1280000, .f32⟩
  | 109 => ⟨S4x1280000, .f32⟩
  | 110 => ⟨S_, .f32⟩
  | 111 => ⟨S4x1280000, .f32⟩
  | 112 => ⟨S4x1280000, .f32⟩
  | 113 => ⟨S_, .f32⟩
  | 114 => ⟨S4x1280000, .f32⟩
  | 115 => ⟨S4x1280000, .f32⟩
  | 116 => ⟨S4x640000, .f32⟩
  | 117 => ⟨S4x640000, .f32⟩
  | 118 => ⟨S4x640000, .f32⟩
  | 119 => ⟨S4x10000x1, .f32⟩
  | 120 => ⟨S4x10000x64, .f32⟩
  | 121 => ⟨S4x10000x65, .f32⟩
  | 122 => ⟨S40000x65, .f32⟩
  | 123 => ⟨S40000x64, .f32⟩
  | 124 => ⟨S1x64, .f32⟩
  | 125 => ⟨S40000x64, .f32⟩
  | 126 => ⟨S40000x64, .f32⟩
  | 127 => ⟨S4x640000, .f32⟩
  | _ => ⟨S10000x128, .f32⟩

abbrev hbmTy0_1 (i : Nat) : BufTy := match i % 128 with
  | 0 => ⟨S4x640000, .f32⟩
  | 1 => ⟨S4x640000, .f32⟩
  | 2 => ⟨S_, .f32⟩
  | 3 => ⟨S4x640000, .f32⟩
  | 4 => ⟨S4x640000, .f32⟩
  | 5 => ⟨S4x640000, .f32⟩
  | 6 => ⟨S4x640000, .f32⟩
  | 7 => ⟨S40000x64, .f32⟩
  | 8 => ⟨S40000x128, .f32⟩
  | 9 => ⟨S128x64, .f32⟩
  | 10 => ⟨S40000x64, .f32⟩
  | 11 => ⟨S1x64, .f32⟩
  | 12 => ⟨S40000x64, .f32⟩
  | 13 => ⟨S40000x64, .f32⟩
  | 14 => ⟨S4x640000, .f32⟩
  | 15 => ⟨S4x10000x64, .f32⟩
  | 16 => ⟨S4x1x10000, .f32⟩
  | 17 => ⟨S4x10000, .f32⟩
  | 18 => ⟨S4x10000x1, .f32⟩
  | 19 => ⟨S4x10000x64, .f32⟩
  | 20 => ⟨S4x10000x65, .f32⟩
  | 21 => ⟨S40000x65, .f32⟩
  | 22 => ⟨S40000x128, .f32⟩
  | 23 => ⟨S1x128, .f32⟩
  | 24 => ⟨S40000x128, .f32⟩
  | 25 => ⟨S40000x128, .f32⟩
  | 26 => ⟨S4x1280000, .f32⟩
  | 27 => ⟨S4x1280000, .f32⟩
  | 28 => ⟨S4x1280000, .f32⟩
  | 29 => ⟨S_, .f32⟩
  | 30 => ⟨S4x1280000, .f32⟩
  | 31 => ⟨S4x1280000, .f32⟩
  | 32 => ⟨S_, .f32⟩
  | 33 => ⟨S4x1280000, .f32⟩
  | 34 => ⟨S4x1280000, .f32⟩
  | 35 => ⟨S4x640000, .f32⟩
  | 36 => ⟨S4x640000, .f32⟩
  | 37 => ⟨S4x640000, .f32⟩
  | 38 => ⟨S4x10000x1, .f32⟩
  | 39 => ⟨S4x10000x64, .f32⟩
  | 40 => ⟨S4x10000x65, .f32⟩
  | 41 => ⟨S40000x65, .f32⟩
  | 42 => ⟨S40000x64, .f32⟩
  | 43 => ⟨S1x64, .f32⟩
  | 44 => ⟨S40000x64, .f32⟩
  | 45 => ⟨S40000x64, .f32⟩
  | 46 => ⟨S4x640000, .f32⟩
  | 47 => ⟨S4x640000, .f32⟩
  | 48 => ⟨S4x640000, .f32⟩
  | 49 => ⟨S_, .f32⟩
  | 50 => ⟨S4x640000, .f32⟩
  | 51 => ⟨S4x640000, .f32⟩
  | 52 => ⟨S4x640000, .f32⟩
  | 53 => ⟨S4x640000, .f32⟩
  | 54 => ⟨S40000x64, .f32⟩
  | 55 => ⟨S40000x128, .f32⟩
  | 56 => ⟨S128x64, .f32⟩
  | 57 => ⟨S40000x64, .f32⟩
  | 58 => ⟨S1x64, .f32⟩
  | 59 => ⟨S40000x64, .f32⟩
  | 60 => ⟨S40000x64, .f32⟩
  | 61 => ⟨S4x640000, .f32⟩
  | 62 => ⟨S4x10000x64, .f32⟩
  | 63 => ⟨S4x1x10000, .f32⟩
  | 64 => ⟨S4x10000, .f32⟩
  | 65 => ⟨S4x10000x1, .f32⟩
  | 66 => ⟨S4x10000x64, .f32⟩
  | 67 => ⟨S4x10000x65, .f32⟩
  | 68 => ⟨S40000x65, .f32⟩
  | 69 => ⟨S40000x128, .f32⟩
  | 70 => ⟨S1x128, .f32⟩
  | 71 => ⟨S40000x128, .f32⟩
  | 72 => ⟨S40000x128, .f32⟩
  | 73 => ⟨S4x1280000, .f32⟩
  | 74 => ⟨S4x1280000, .f32⟩
  | 75 => ⟨S4x1280000, .f32⟩
  | 76 => ⟨S_, .f32⟩
  | 77 => ⟨S4x1280000, .f32⟩
  | 78 => ⟨S4x1280000, .f32⟩
  | 79 => ⟨S_, .f32⟩
  | 80 => ⟨S4x1280000, .f32⟩
  | 81 => ⟨S4x1280000, .f32⟩
  | 82 => ⟨S4x640000, .f32⟩
  | 83 => ⟨S4x640000, .f32⟩
  | 84 => ⟨S4x640000, .f32⟩
  | 85 => ⟨S4x10000x1, .f32⟩
  | 86 => ⟨S4x10000x64, .f32⟩
  | 87 => ⟨S4x10000x65, .f32⟩
  | 88 => ⟨S40000x65, .f32⟩
  | 89 => ⟨S40000x64, .f32⟩
  | 90 => ⟨S1x64, .f32⟩
  | 91 => ⟨S40000x64, .f32⟩
  | 92 => ⟨S40000x64, .f32⟩
  | 93 => ⟨S4x640000, .f32⟩
  | 94 => ⟨S4x640000, .f32⟩
  | 95 => ⟨S4x640000, .f32⟩
  | 96 => ⟨S_, .f32⟩
  | 97 => ⟨S4x640000, .f32⟩
  | 98 => ⟨S4x640000, .f32⟩
  | 99 => ⟨S4x640000, .f32⟩
  | 100 => ⟨S4x640000, .f32⟩
  | 101 => ⟨S40000x64, .f32⟩
  | 102 => ⟨S40000x128, .f32⟩
  | 103 => ⟨S128x64, .f32⟩
  | 104 => ⟨S40000x64, .f32⟩
  | 105 => ⟨S1x64, .f32⟩
  | 106 => ⟨S40000x64, .f32⟩
  | 107 => ⟨S40000x64, .f32⟩
  | 108 => ⟨S4x640000, .f32⟩
  | 109 => ⟨S4x10000x64, .f32⟩
  | 110 => ⟨S4x1x10000, .f32⟩
  | 111 => ⟨S4x10000, .f32⟩
  | 112 => ⟨S4x10000x1, .f32⟩
  | 113 => ⟨S4x10000x64, .f32⟩
  | 114 => ⟨S4x10000x65, .f32⟩
  | 115 => ⟨S40000x65, .f32⟩
  | 116 => ⟨S40000x128, .f32⟩
  | 117 => ⟨S1x128, .f32⟩
  | 118 => ⟨S40000x128, .f32⟩
  | 119 => ⟨S40000x128, .f32⟩
  | 120 => ⟨S4x1280000, .f32⟩
  | 121 => ⟨S4x1280000, .f32⟩
  | 122 => ⟨S4x1280000, .f32⟩
  | 123 => ⟨S_, .f32⟩
  | 124 => ⟨S4x1280000, .f32⟩
  | 125 => ⟨S4x1280000, .f32⟩
  | 126 => ⟨S_, .f32⟩
  | 127 => ⟨S4x1280000, .f32⟩
  | _ => ⟨S10000x128, .f32⟩

abbrev hbmTy0_2 (i : Nat) : BufTy := match i % 128 with
  | 0 => ⟨S4x1280000, .f32⟩
  | 1 => ⟨S4x640000, .f32⟩
  | 2 => ⟨S4x640000, .f32⟩
  | 3 => ⟨S4x640000, .f32⟩
  | 4 => ⟨S4x10000x1, .f32⟩
  | 5 => ⟨S4x10000x64, .f32⟩
  | 6 => ⟨S4x10000x65, .f32⟩
  | 7 => ⟨S40000x65, .f32⟩
  | 8 => ⟨S40000x64, .f32⟩
  | 9 => ⟨S1x64, .f32⟩
  | 10 => ⟨S40000x64, .f32⟩
  | 11 => ⟨S40000x64, .f32⟩
  | 12 => ⟨S4x640000, .f32⟩
  | 13 => ⟨S4x640000, .f32⟩
  | 14 => ⟨S4x640000, .f32⟩
  | 15 => ⟨S_, .f32⟩
  | 16 => ⟨S4x640000, .f32⟩
  | 17 => ⟨S4x640000, .f32⟩
  | 18 => ⟨S4x640000, .f32⟩
  | 19 => ⟨S4x640000, .f32⟩
  | 20 => ⟨S40000x64, .f32⟩
  | 21 => ⟨S40000x128, .f32⟩
  | 22 => ⟨S128x64, .f32⟩
  | 23 => ⟨S40000x64, .f32⟩
  | 24 => ⟨S1x64, .f32⟩
  | 25 => ⟨S40000x64, .f32⟩
  | 26 => ⟨S40000x64, .f32⟩
  | 27 => ⟨S4x640000, .f32⟩
  | 28 => ⟨S4x10000x64, .f32⟩
  | 29 => ⟨S4x1x10000, .f32⟩
  | 30 => ⟨S4x10000, .f32⟩
  | 31 => ⟨S4x10000x1, .f32⟩
  | 32 => ⟨S4x10000x64, .f32⟩
  | 33 => ⟨S4x10000x65, .f32⟩
  | 34 => ⟨S40000x65, .f32⟩
  | 35 => ⟨S40000x128, .f32⟩
  | 36 => ⟨S1x128, .f32⟩
  | 37 => ⟨S40000x128, .f32⟩
  | 38 => ⟨S40000x128, .f32⟩
  | 39 => ⟨S4x1280000, .f32⟩
  | 40 => ⟨S4x1280000, .f32⟩
  | 41 => ⟨S4x1280000, .f32⟩
  | 42 => ⟨S_, .f32⟩
  | 43 => ⟨S4x1280000, .f32⟩
  | 44 => ⟨S4x1280000, .f32⟩
  | 45 => ⟨S_, .f32⟩
  | 46 => ⟨S4x1280000, .f32⟩
  | 47 => ⟨S4x1280000, .f32⟩
  | 48 => ⟨S4x640000, .f32⟩
  | 49 => ⟨S4x640000, .f32⟩
  | 50 => ⟨S4x640000, .f32⟩
  | 51 => ⟨S4x10000x1, .f32⟩
  | 52 => ⟨S4x10000x64, .f32⟩
  | 53 => ⟨S4x10000x65, .f32⟩
  | 54 => ⟨S40000x65, .f32⟩
  | 55 => ⟨S40000x64, .f32⟩
  | 56 => ⟨S1x64, .f32⟩
  | 57 => ⟨S40000x64, .f32⟩
  | 58 => ⟨S40000x64, .f32⟩
  | 59 => ⟨S4x640000, .f32⟩
  | 60 => ⟨S4x640000, .f32⟩
  | 61 => ⟨S4x640000, .f32⟩
  | 62 => ⟨S_, .f32⟩
  | 63 => ⟨S4x640000, .f32⟩
  | 64 => ⟨S4x640000, .f32⟩
  | 65 => ⟨S4x640000, .f32⟩
  | 66 => ⟨S4x640000, .f32⟩
  | 67 => ⟨S40000x64, .f32⟩
  | 68 => ⟨S40000x128, .f32⟩
  | 69 => ⟨S128x64, .f32⟩
  | 70 => ⟨S40000x64, .f32⟩
  | 71 => ⟨S1x64, .f32⟩
  | 72 => ⟨S40000x64, .f32⟩
  | 73 => ⟨S40000x64, .f32⟩
  | 74 => ⟨S4x640000, .f32⟩
  | 75 => ⟨S4x10000x64, .f32⟩
  | 76 => ⟨S4x1x10000, .f32⟩
  | 77 => ⟨S4x10000, .f32⟩
  | 78 => ⟨S4x10000x1, .f32⟩
  | 79 => ⟨S4x10000x64, .f32⟩
  | 80 => ⟨S4x10000x65, .f32⟩
  | 81 => ⟨S40000x65, .f32⟩
  | 82 => ⟨S40000x128, .f32⟩
  | 83 => ⟨S1x128, .f32⟩
  | 84 => ⟨S40000x128, .f32⟩
  | 85 => ⟨S40000x128, .f32⟩
  | 86 => ⟨S4x1280000, .f32⟩
  | 87 => ⟨S4x1280000, .f32⟩
  | 88 => ⟨S4x1280000, .f32⟩
  | 89 => ⟨S_, .f32⟩
  | 90 => ⟨S4x1280000, .f32⟩
  | 91 => ⟨S4x1280000, .f32⟩
  | 92 => ⟨S_, .f32⟩
  | 93 => ⟨S4x1280000, .f32⟩
  | 94 => ⟨S4x1280000, .f32⟩
  | 95 => ⟨S4x640000, .f32⟩
  | 96 => ⟨S4x640000, .f32⟩
  | 97 => ⟨S4x640000, .f32⟩
  | 98 => ⟨S4x10000x1, .f32⟩
  | 99 => ⟨S4x10000x64, .f32⟩
  | 100 => ⟨S4x10000x65, .f32⟩
  | 101 => ⟨S40000x65, .f32⟩
  | 102 => ⟨S40000x64, .f32⟩
  | 103 => ⟨S1x64, .f32⟩
  | 104 => ⟨S40000x64, .f32⟩
  | 105 => ⟨S40000x64, .f32⟩
  | 106 => ⟨S4x640000, .f32⟩
  | 107 => ⟨S4x640000, .f32⟩
  | 108 => ⟨S4x640000, .f32⟩
  | 109 => ⟨S_, .f32⟩
  | 110 => ⟨S4x640000, .f32⟩
  | 111 => ⟨S4x640000, .f32⟩
  | 112 => ⟨S4x640000, .f32⟩
  | 113 => ⟨S4x640000, .f32⟩
  | 114 => ⟨S40000x64, .f32⟩
  | 115 => ⟨S40000x128, .f32⟩
  | 116 => ⟨S128x64, .f32⟩
  | 117 => ⟨S40000x64, .f32⟩
  | 118 => ⟨S1x64, .f32⟩
  | 119 => ⟨S40000x64, .f32⟩
  | 120 => ⟨S40000x64, .f32⟩
  | 121 => ⟨S4x640000, .f32⟩
  | 122 => ⟨S4x10000x64, .f32⟩
  | 123 => ⟨S4x1x10000, .f32⟩
  | 124 => ⟨S4x10000, .f32⟩
  | 125 => ⟨S4x10000x1, .f32⟩
  | 126 => ⟨S4x10000x64, .f32⟩
  | 127 => ⟨S4x10000x65, .f32⟩
  | _ => ⟨S10000x128, .f32⟩

abbrev hbmTy0_3 (i : Nat) : BufTy := match i % 128 with
  | 0 => ⟨S40000x65, .f32⟩
  | 1 => ⟨S40000x128, .f32⟩
  | 2 => ⟨S1x128, .f32⟩
  | 3 => ⟨S40000x128, .f32⟩
  | 4 => ⟨S40000x128, .f32⟩
  | 5 => ⟨S4x1280000, .f32⟩
  | 6 => ⟨S4x1280000, .f32⟩
  | 7 => ⟨S4x1280000, .f32⟩
  | 8 => ⟨S_, .f32⟩
  | 9 => ⟨S4x1280000, .f32⟩
  | 10 => ⟨S4x1280000, .f32⟩
  | 11 => ⟨S_, .f32⟩
  | 12 => ⟨S4x1280000, .f32⟩
  | 13 => ⟨S4x1280000, .f32⟩
  | 14 => ⟨S4x640000, .f32⟩
  | 15 => ⟨S4x640000, .f32⟩
  | 16 => ⟨S4x640000, .f32⟩
  | 17 => ⟨S4x10000x1, .f32⟩
  | 18 => ⟨S4x10000x64, .f32⟩
  | 19 => ⟨S4x10000x65, .f32⟩
  | 20 => ⟨S40000x65, .f32⟩
  | 21 => ⟨S40000x64, .f32⟩
  | 22 => ⟨S1x64, .f32⟩
  | 23 => ⟨S40000x64, .f32⟩
  | 24 => ⟨S40000x64, .f32⟩
  | 25 => ⟨S4x640000, .f32⟩
  | 26 => ⟨S4x640000, .f32⟩
  | 27 => ⟨S4x640000, .f32⟩
  | 28 => ⟨S_, .f32⟩
  | 29 => ⟨S4x640000, .f32⟩
  | 30 => ⟨S4x640000, .f32⟩
  | 31 => ⟨S4x640000, .f32⟩
  | 32 => ⟨S4x640000, .f32⟩
  | 33 => ⟨S40000x64, .f32⟩
  | 34 => ⟨S40000x128, .f32⟩
  | 35 => ⟨S128x64, .f32⟩
  | 36 => ⟨S40000x64, .f32⟩
  | 37 => ⟨S1x64, .f32⟩
  | 38 => ⟨S40000x64, .f32⟩
  | 39 => ⟨S40000x64, .f32⟩
  | 40 => ⟨S4x640000, .f32⟩
  | 41 => ⟨S4x10000x64, .f32⟩
  | 42 => ⟨S4x1x10000, .f32⟩
  | 43 => ⟨S4x10000, .f32⟩
  | 44 => ⟨S4x10000x1, .f32⟩
  | 45 => ⟨S4x10000x64, .f32⟩
  | 46 => ⟨S4x10000x65, .f32⟩
  | 47 => ⟨S40000x65, .f32⟩
  | 48 => ⟨S40000x128, .f32⟩
  | 49 => ⟨S1x128, .f32⟩
  | 50 => ⟨S40000x128, .f32⟩
  | 51 => ⟨S40000x128, .f32⟩
  | 52 => ⟨S4x1280000, .f32⟩
  | 53 => ⟨S4x1280000, .f32⟩
  | 54 => ⟨S4x1280000, .f32⟩
  | 55 => ⟨S_, .f32⟩
  | 56 => ⟨S4x1280000, .f32⟩
  | 57 => ⟨S4x1280000, .f32⟩
  | 58 => ⟨S_, .f32⟩
  | 59 => ⟨S4x1280000, .f32⟩
  | 60 => ⟨S4x1280000, .f32⟩
  | 61 => ⟨S4x640000, .f32⟩
  | 62 => ⟨S4x640000, .f32⟩
  | 63 => ⟨S4x640000, .f32⟩
  | 64 => ⟨S4x10000x1, .f32⟩
  | 65 => ⟨S4x10000x64, .f32⟩
  | 66 => ⟨S4x10000x65, .f32⟩
  | 67 => ⟨S40000x65, .f32⟩
  | 68 => ⟨S40000x64, .f32⟩
  | 69 => ⟨S1x64, .f32⟩
  | 70 => ⟨S40000x64, .f32⟩
  | 71 => ⟨S40000x64, .f32⟩
  | 72 => ⟨S4x640000, .f32⟩
  | 73 => ⟨S4x640000, .f32⟩
  | 74 => ⟨S4x640000, .f32⟩
  | 75 => ⟨S_, .f32⟩
  | 76 => ⟨S4x640000, .f32⟩
  | 77 => ⟨S4x640000, .f32⟩
  | 78 => ⟨S4x640000, .f32⟩
  | 79 => ⟨S4x640000, .f32⟩
  | 80 => ⟨S40000x64, .f32⟩
  | 81 => ⟨S40000x128, .f32⟩
  | 82 => ⟨S128x64, .f32⟩
  | 83 => ⟨S40000x64, .f32⟩
  | 84 => ⟨S1x64, .f32⟩
  | 85 => ⟨S40000x64, .f32⟩
  | 86 => ⟨S40000x64, .f32⟩
  | 87 => ⟨S4x640000, .f32⟩
  | 88 => ⟨S4x10000x64, .f32⟩
  | 89 => ⟨S4x1x10000, .f32⟩
  | 90 => ⟨S4x10000, .f32⟩
  | 91 => ⟨S4x10000x1, .f32⟩
  | 92 => ⟨S4x10000x64, .f32⟩
  | 93 => ⟨S4x10000x65, .f32⟩
  | 94 => ⟨S40000x65, .f32⟩
  | 95 => ⟨S40000x128, .f32⟩
  | 96 => ⟨S1x128, .f32⟩
  | 97 => ⟨S40000x128, .f32⟩
  | 98 => ⟨S40000x128, .f32⟩
  | 99 => ⟨S4x1280000, .f32⟩
  | 100 => ⟨S4x1280000, .f32⟩
  | 101 => ⟨S4x1280000, .f32⟩
  | 102 => ⟨S_, .f32⟩
  | 103 => ⟨S4x1280000, .f32⟩
  | 104 => ⟨S4x1280000, .f32⟩
  | 105 => ⟨S_, .f32⟩
  | 106 => ⟨S4x1280000, .f32⟩
  | 107 => ⟨S4x1280000, .f32⟩
  | 108 => ⟨S4x640000, .f32⟩
  | 109 => ⟨S4x640000, .f32⟩
  | 110 => ⟨S4x640000, .f32⟩
  | 111 => ⟨S4x10000x1, .f32⟩
  | 112 => ⟨S4x10000x64, .f32⟩
  | 113 => ⟨S4x10000x65, .f32⟩
  | 114 => ⟨S40000x65, .f32⟩
  | 115 => ⟨S40000x64, .f32⟩
  | 116 => ⟨S1x64, .f32⟩
  | 117 => ⟨S40000x64, .f32⟩
  | 118 => ⟨S40000x64, .f32⟩
  | 119 => ⟨S4x640000, .f32⟩
  | 120 => ⟨S4x640000, .f32⟩
  | 121 => ⟨S4x640000, .f32⟩
  | 122 => ⟨S_, .f32⟩
  | 123 => ⟨S4x640000, .f32⟩
  | 124 => ⟨S4x640000, .f32⟩
  | 125 => ⟨S4x640000, .f32⟩
  | 126 => ⟨S4x640000, .f32⟩
  | 127 => ⟨S40000x64, .f32⟩
  | _ => ⟨S10000x128, .f32⟩

abbrev hbmTy0_4 (i : Nat) : BufTy := match i % 128 with
  | 0 => ⟨S40000x128, .f32⟩
  | 1 => ⟨S128x64, .f32⟩
  | 2 => ⟨S40000x64, .f32⟩
  | 3 => ⟨S1x64, .f32⟩
  | 4 => ⟨S40000x64, .f32⟩
  | 5 => ⟨S40000x64, .f32⟩
  | 6 => ⟨S4x640000, .f32⟩
  | 7 => ⟨S4x10000x64, .f32⟩
  | 8 => ⟨S4x1x10000, .f32⟩
  | 9 => ⟨S4x10000, .f32⟩
  | 10 => ⟨S4x10000x1, .f32⟩
  | 11 => ⟨S4x10000x64, .f32⟩
  | 12 => ⟨S4x10000x65, .f32⟩
  | 13 => ⟨S40000x65, .f32⟩
  | 14 => ⟨S40000x128, .f32⟩
  | 15 => ⟨S1x128, .f32⟩
  | 16 => ⟨S40000x128, .f32⟩
  | 17 => ⟨S40000x128, .f32⟩
  | 18 => ⟨S4x1280000, .f32⟩
  | 19 => ⟨S4x1280000, .f32⟩
  | 20 => ⟨S4x1280000, .f32⟩
  | 21 => ⟨S_, .f32⟩
  | 22 => ⟨S4x1280000, .f32⟩
  | 23 => ⟨S4x1280000, .f32⟩
  | 24 => ⟨S_, .f32⟩
  | 25 => ⟨S4x1280000, .f32⟩
  | 26 => ⟨S4x1280000, .f32⟩
  | 27 => ⟨S4x640000, .f32⟩
  | 28 => ⟨S4x640000, .f32⟩
  | 29 => ⟨S4x640000, .f32⟩
  | 30 => ⟨S4x10000x1, .f32⟩
  | 31 => ⟨S4x10000x64, .f32⟩
  | 32 => ⟨S4x10000x65, .f32⟩
  | 33 => ⟨S40000x65, .f32⟩
  | 34 => ⟨S40000x64, .f32⟩
  | 35 => ⟨S1x64, .f32⟩
  | 36 => ⟨S40000x64, .f32⟩
  | 37 => ⟨S40000x64, .f32⟩
  | 38 => ⟨S4x640000, .f32⟩
  | 39 => ⟨S4x640000, .f32⟩
  | 40 => ⟨S4x640000, .f32⟩
  | 41 => ⟨S_, .f32⟩
  | 42 => ⟨S4x640000, .f32⟩
  | 43 => ⟨S4x640000, .f32⟩
  | 44 => ⟨S4x640000, .f32⟩
  | 45 => ⟨S4x640000, .f32⟩
  | 46 => ⟨S40000x64, .f32⟩
  | 47 => ⟨S40000x128, .f32⟩
  | 48 => ⟨S128x64, .f32⟩
  | 49 => ⟨S40000x64, .f32⟩
  | 50 => ⟨S1x64, .f32⟩
  | 51 => ⟨S40000x64, .f32⟩
  | 52 => ⟨S40000x64, .f32⟩
  | 53 => ⟨S4x640000, .f32⟩
  | 54 => ⟨S4x10000x64, .f32⟩
  | 55 => ⟨S4x1x10000, .f32⟩
  | 56 => ⟨S4x10000, .f32⟩
  | 57 => ⟨S4x10000x1, .f32⟩
  | 58 => ⟨S4x10000x64, .f32⟩
  | 59 => ⟨S4x10000x65, .f32⟩
  | 60 => ⟨S40000x65, .f32⟩
  | 61 => ⟨S40000x128, .f32⟩
  | 62 => ⟨S1x128, .f32⟩
  | 63 => ⟨S40000x128, .f32⟩
  | 64 => ⟨S40000x128, .f32⟩
  | 65 => ⟨S4x1280000, .f32⟩
  | 66 => ⟨S4x1280000, .f32⟩
  | 67 => ⟨S4x1280000, .f32⟩
  | 68 => ⟨S_, .f32⟩
  | 69 => ⟨S4x1280000, .f32⟩
  | 70 => ⟨S4x1280000, .f32⟩
  | 71 => ⟨S_, .f32⟩
  | 72 => ⟨S4x1280000, .f32⟩
  | 73 => ⟨S4x1280000, .f32⟩
  | 74 => ⟨S4x640000, .f32⟩
  | 75 => ⟨S4x640000, .f32⟩
  | 76 => ⟨S4x640000, .f32⟩
  | 77 => ⟨S4x10000x1, .f32⟩
  | 78 => ⟨S4x10000x64, .f32⟩
  | 79 => ⟨S4x10000x65, .f32⟩
  | 80 => ⟨S40000x65, .f32⟩
  | 81 => ⟨S40000x64, .f32⟩
  | 82 => ⟨S1x64, .f32⟩
  | 83 => ⟨S40000x64, .f32⟩
  | 84 => ⟨S40000x64, .f32⟩
  | 85 => ⟨S4x640000, .f32⟩
  | 86 => ⟨S4x640000, .f32⟩
  | 87 => ⟨S4x640000, .f32⟩
  | 88 => ⟨S_, .f32⟩
  | 89 => ⟨S4x640000, .f32⟩
  | 90 => ⟨S4x640000, .f32⟩
  | 91 => ⟨S4x640000, .f32⟩
  | 92 => ⟨S4x640000, .f32⟩
  | 93 => ⟨S40000x64, .f32⟩
  | 94 => ⟨S40000x128, .f32⟩
  | 95 => ⟨S128x64, .f32⟩
  | 96 => ⟨S40000x64, .f32⟩
  | 97 => ⟨S1x64, .f32⟩
  | 98 => ⟨S40000x64, .f32⟩
  | 99 => ⟨S40000x64, .f32⟩
  | 100 => ⟨S4x640000, .f32⟩
  | 101 => ⟨S4x10000x64, .f32⟩
  | 102 => ⟨S4x1x10000, .f32⟩
  | 103 => ⟨S4x10000, .f32⟩
  | 104 => ⟨S4x10000x1, .f32⟩
  | 105 => ⟨S4x10000x64, .f32⟩
  | 106 => ⟨S4x10000x65, .f32⟩
  | 107 => ⟨S40000x65, .f32⟩
  | 108 => ⟨S40000x128, .f32⟩
  | 109 => ⟨S1x128, .f32⟩
  | 110 => ⟨S40000x128, .f32⟩
  | 111 => ⟨S40000x128, .f32⟩
  | 112 => ⟨S4x1280000, .f32⟩
  | 113 => ⟨S4x1280000, .f32⟩
  | 114 => ⟨S4x1280000, .f32⟩
  | 115 => ⟨S_, .f32⟩
  | 116 => ⟨S4x1280000, .f32⟩
  | 117 => ⟨S4x1280000, .f32⟩
  | 118 => ⟨S_, .f32⟩
  | 119 => ⟨S4x1280000, .f32⟩
  | 120 => ⟨S4x1280000, .f32⟩
  | 121 => ⟨S4x640000, .f32⟩
  | 122 => ⟨S4x640000, .f32⟩
  | 123 => ⟨S4x640000, .f32⟩
  | 124 => ⟨S4x10000x1, .f32⟩
  | 125 => ⟨S4x10000x64, .f32⟩
  | 126 => ⟨S4x10000x65, .f32⟩
  | 127 => ⟨S40000x65, .f32⟩
  | _ => ⟨S10000x128, .f32⟩

abbrev hbmTy0_5 (i : Nat) : BufTy := match i % 128 with
  | 0 => ⟨S40000x64, .f32⟩
  | 1 => ⟨S1x64, .f32⟩
  | 2 => ⟨S40000x64, .f32⟩
  | 3 => ⟨S40000x64, .f32⟩
  | 4 => ⟨S4x640000, .f32⟩
  | 5 => ⟨S4x640000, .f32⟩
  | 6 => ⟨S4x640000, .f32⟩
  | 7 => ⟨S_, .f32⟩
  | 8 => ⟨S4x640000, .f32⟩
  | 9 => ⟨S4x640000, .f32⟩
  | 10 => ⟨S4x640000, .f32⟩
  | 11 => ⟨S4x640000, .f32⟩
  | 12 => ⟨S40000x64, .f32⟩
  | 13 => ⟨S40000x128, .f32⟩
  | 14 => ⟨S128x64, .f32⟩
  | 15 => ⟨S40000x64, .f32⟩
  | 16 => ⟨S1x64, .f32⟩
  | 17 => ⟨S40000x64, .f32⟩
  | 18 => ⟨S40000x64, .f32⟩
  | 19 => ⟨S4x640000, .f32⟩
  | 20 => ⟨S4x10000x64, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst : Ref sig .tc := ⟨.hbm, 24, rfl⟩
abbrev main_v6 : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_cst_1 : Ref sig .tc := ⟨.hbm, 30, rfl⟩
abbrev main_call0_v0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_2 : Ref sig .tc := ⟨.hbm, 39, rfl⟩
abbrev main_v17 : Ref sig .tc := ⟨.hbm, 40, rfl⟩
abbrev main_v18 : Ref sig .tc := ⟨.hbm, 41, rfl⟩
abbrev main_cst_3 : Ref sig .tc := ⟨.hbm, 42, rfl⟩
abbrev main_v19 : Ref sig .tc := ⟨.hbm, 43, rfl⟩
abbrev main_v20 : Ref sig .tc := ⟨.hbm, 44, rfl⟩
abbrev main_c : Ref sig .tc := ⟨.hbm, 45, rfl⟩
abbrev main_call1_cst : Ref sig .tc := ⟨.hbm, 46, rfl⟩
abbrev main_call1_v0 : Ref sig .tc := ⟨.hbm, 47, rfl⟩
abbrev main_call1_v1 : Ref sig .tc := ⟨.hbm, 48, rfl⟩
abbrev main_call1_cst_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_v6 : Ref sig .tc := ⟨.hbm, 54, rfl⟩
abbrev main_call1_v7 : Ref sig .tc := ⟨.hbm, 55, rfl⟩
abbrev main_call1_cst_1 : Ref sig .tc := ⟨.hbm, 56, rfl⟩
abbrev main_call1_v8 : Ref sig .tc := ⟨.hbm, 57, rfl⟩
abbrev main_call1_cst_2 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_cst_3 : Ref sig .tc := ⟨.hbm, 63, rfl⟩
abbrev main_call1_v13 : Ref sig .tc := ⟨.hbm, 64, rfl⟩
abbrev main_call1_cst_4 : Ref sig .tc := ⟨.hbm, 65, rfl⟩
abbrev main_call1_call0_v0 : Ref sig .tc := ⟨.hbm, 66, rfl⟩
abbrev main_call1_call0_v1 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_cst_4 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_cst_5 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_cst_6 : Ref sig .tc := ⟨.hbm, 110, rfl⟩
abbrev main_v61 : Ref sig .tc := ⟨.hbm, 111, rfl⟩
abbrev main_v62 : Ref sig .tc := ⟨.hbm, 112, rfl⟩
abbrev main_cst_7 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_cst_8 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_cst_9 : Ref sig .tc := ⟨.hbm, 157, rfl⟩
abbrev main_v105 : Ref sig .tc := ⟨.hbm, 158, rfl⟩
abbrev main_v106 : Ref sig .tc := ⟨.hbm, 159, rfl⟩
abbrev main_cst_10 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_cst_11 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_cst_12 : Ref sig .tc := ⟨.hbm, 204, rfl⟩
abbrev main_v149 : Ref sig .tc := ⟨.hbm, 205, rfl⟩
abbrev main_v150 : Ref sig .tc := ⟨.hbm, 206, rfl⟩
abbrev main_cst_13 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_cst_14 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_cst_15 : Ref sig .tc := ⟨.hbm, 251, rfl⟩
abbrev main_v193 : Ref sig .tc := ⟨.hbm, 252, rfl⟩
abbrev main_v194 : Ref sig .tc := ⟨.hbm, 253, rfl⟩
abbrev main_cst_16 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_cst_17 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩
abbrev main_v229 : Ref sig .tc := ⟨.hbm, 290, rfl⟩
abbrev main_v230 : Ref sig .tc := ⟨.hbm, 291, rfl⟩
abbrev main_v231 : Ref sig .tc := ⟨.hbm, 292, rfl⟩
abbrev main_v232 : Ref sig .tc := ⟨.hbm, 293, rfl⟩
abbrev main_v233 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_cst_18 : Ref sig .tc := ⟨.hbm, 298, rfl⟩
abbrev main_v237 : Ref sig .tc := ⟨.hbm, 299, rfl⟩
abbrev main_v238 : Ref sig .tc := ⟨.hbm, 300, rfl⟩
abbrev main_cst_19 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_v247 : Ref sig .tc := ⟨.hbm, 310, rfl⟩
abbrev main_v248 : Ref sig .tc := ⟨.hbm, 311, rfl⟩
abbrev main_v249 : Ref sig .tc := ⟨.hbm, 312, rfl⟩
abbrev main_v250 : Ref sig .tc := ⟨.hbm, 313, rfl⟩
abbrev main_v251 : Ref sig .tc := ⟨.hbm, 314, rfl⟩
abbrev main_v252 : Ref sig .tc := ⟨.hbm, 315, rfl⟩
abbrev main_v253 : Ref sig .tc := ⟨.hbm, 316, rfl⟩
abbrev main_v254 : Ref sig .tc := ⟨.hbm, 317, rfl⟩
abbrev main_cst_20 : Ref sig .tc := ⟨.hbm, 318, rfl⟩
abbrev main_v255 : Ref sig .tc := ⟨.hbm, 319, rfl⟩
abbrev main_v256 : Ref sig .tc := ⟨.hbm, 320, rfl⟩
abbrev main_v257 : Ref sig .tc := ⟨.hbm, 321, rfl⟩
abbrev main_v258 : Ref sig .tc := ⟨.hbm, 322, rfl⟩
abbrev main_v259 : Ref sig .tc := ⟨.hbm, 323, rfl⟩
abbrev main_v260 : Ref sig .tc := ⟨.hbm, 324, rfl⟩
abbrev main_v261 : Ref sig .tc := ⟨.hbm, 325, rfl⟩
abbrev main_v262 : Ref sig .tc := ⟨.hbm, 326, rfl⟩
abbrev main_v263 : Ref sig .tc := ⟨.hbm, 327, rfl⟩
abbrev main_v264 : Ref sig .tc := ⟨.hbm, 328, rfl⟩
abbrev main_v265 : Ref sig .tc := ⟨.hbm, 329, rfl⟩
abbrev main_v266 : Ref sig .tc := ⟨.hbm, 330, rfl⟩
abbrev main_v267 : Ref sig .tc := ⟨.hbm, 331, rfl⟩
abbrev main_v268 : Ref sig .tc := ⟨.hbm, 332, rfl⟩
abbrev main_v269 : Ref sig .tc := ⟨.hbm, 333, rfl⟩
abbrev main_v270 : Ref sig .tc := ⟨.hbm, 334, rfl⟩
abbrev main_v271 : Ref sig .tc := ⟨.hbm, 335, rfl⟩
abbrev main_v272 : Ref sig .tc := ⟨.hbm, 336, rfl⟩
abbrev main_v273 : Ref sig .tc := ⟨.hbm, 337, rfl⟩
abbrev main_v274 : Ref sig .tc := ⟨.hbm, 338, rfl⟩
abbrev main_v275 : Ref sig .tc := ⟨.hbm, 339, rfl⟩
abbrev main_v276 : Ref sig .tc := ⟨.hbm, 340, rfl⟩
abbrev main_v277 : Ref sig .tc := ⟨.hbm, 341, rfl⟩
abbrev main_v278 : Ref sig .tc := ⟨.hbm, 342, rfl⟩
abbrev main_v279 : Ref sig .tc := ⟨.hbm, 343, rfl⟩
abbrev main_v280 : Ref sig .tc := ⟨.hbm, 344, rfl⟩
abbrev main_cst_21 : Ref sig .tc := ⟨.hbm, 345, rfl⟩
abbrev main_v281 : Ref sig .tc := ⟨.hbm, 346, rfl⟩
abbrev main_v282 : Ref sig .tc := ⟨.hbm, 347, rfl⟩
abbrev main_cst_22 : Ref sig .tc := ⟨.hbm, 348, rfl⟩
abbrev main_v283 : Ref sig .tc := ⟨.hbm, 349, rfl⟩
abbrev main_v284 : Ref sig .tc := ⟨.hbm, 350, rfl⟩
abbrev main_v285 : Ref sig .tc := ⟨.hbm, 351, rfl⟩
abbrev main_v286 : Ref sig .tc := ⟨.hbm, 352, rfl⟩
abbrev main_v287 : Ref sig .tc := ⟨.hbm, 353, rfl⟩
abbrev main_v288 : Ref sig .tc := ⟨.hbm, 354, rfl⟩
abbrev main_v289 : Ref sig .tc := ⟨.hbm, 355, rfl⟩
abbrev main_v290 : Ref sig .tc := ⟨.hbm, 356, rfl⟩
abbrev main_v291 : Ref sig .tc := ⟨.hbm, 357, rfl⟩
abbrev main_v292 : Ref sig .tc := ⟨.hbm, 358, rfl⟩
abbrev main_v293 : Ref sig .tc := ⟨.hbm, 359, rfl⟩
abbrev main_v294 : Ref sig .tc := ⟨.hbm, 360, rfl⟩
abbrev main_v295 : Ref sig .tc := ⟨.hbm, 361, rfl⟩
abbrev main_v296 : Ref sig .tc := ⟨.hbm, 362, rfl⟩
abbrev main_v297 : Ref sig .tc := ⟨.hbm, 363, rfl⟩
abbrev main_v298 : Ref sig .tc := ⟨.hbm, 364, rfl⟩
abbrev main_cst_23 : Ref sig .tc := ⟨.hbm, 365, rfl⟩
abbrev main_v299 : Ref sig .tc := ⟨.hbm, 366, rfl⟩
abbrev main_v300 : Ref sig .tc := ⟨.hbm, 367, rfl⟩
abbrev main_v301 : Ref sig .tc := ⟨.hbm, 368, rfl⟩
abbrev main_v302 : Ref sig .tc := ⟨.hbm, 369, rfl⟩
abbrev main_v303 : Ref sig .tc := ⟨.hbm, 370, rfl⟩
abbrev main_v304 : Ref sig .tc := ⟨.hbm, 371, rfl⟩
abbrev main_v305 : Ref sig .tc := ⟨.hbm, 372, rfl⟩
abbrev main_v306 : Ref sig .tc := ⟨.hbm, 373, rfl⟩
abbrev main_v307 : Ref sig .tc := ⟨.hbm, 374, rfl⟩
abbrev main_v308 : Ref sig .tc := ⟨.hbm, 375, rfl⟩
abbrev main_v309 : Ref sig .tc := ⟨.hbm, 376, rfl⟩
abbrev main_v310 : Ref sig .tc := ⟨.hbm, 377, rfl⟩
abbrev main_v311 : Ref sig .tc := ⟨.hbm, 378, rfl⟩
abbrev main_v312 : Ref sig .tc := ⟨.hbm, 379, rfl⟩
abbrev main_v313 : Ref sig .tc := ⟨.hbm, 380, rfl⟩
abbrev main_v314 : Ref sig .tc := ⟨.hbm, 381, rfl⟩
abbrev main_v315 : Ref sig .tc := ⟨.hbm, 382, rfl⟩
abbrev main_v316 : Ref sig .tc := ⟨.hbm, 383, rfl⟩
abbrev main_v317 : Ref sig .tc := ⟨.hbm, 384, rfl⟩
abbrev main_v318 : Ref sig .tc := ⟨.hbm, 385, rfl⟩
abbrev main_v319 : Ref sig .tc := ⟨.hbm, 386, rfl⟩
abbrev main_v320 : Ref sig .tc := ⟨.hbm, 387, rfl⟩
abbrev main_v321 : Ref sig .tc := ⟨.hbm, 388, rfl⟩
abbrev main_v322 : Ref sig .tc := ⟨.hbm, 389, rfl⟩
abbrev main_v323 : Ref sig .tc := ⟨.hbm, 390, rfl⟩
abbrev main_v324 : Ref sig .tc := ⟨.hbm, 391, rfl⟩
abbrev main_cst_24 : Ref sig .tc := ⟨.hbm, 392, rfl⟩
abbrev main_v325 : Ref sig .tc := ⟨.hbm, 393, rfl⟩
abbrev main_v326 : Ref sig .tc := ⟨.hbm, 394, rfl⟩
abbrev main_cst_25 : Ref sig .tc := ⟨.hbm, 395, rfl⟩
abbrev main_v327 : Ref sig .tc := ⟨.hbm, 396, rfl⟩
abbrev main_v328 : Ref sig .tc := ⟨.hbm, 397, rfl⟩
abbrev main_v329 : Ref sig .tc := ⟨.hbm, 398, rfl⟩
abbrev main_v330 : Ref sig .tc := ⟨.hbm, 399, rfl⟩
abbrev main_v331 : Ref sig .tc := ⟨.hbm, 400, rfl⟩
abbrev main_v332 : Ref sig .tc := ⟨.hbm, 401, rfl⟩
abbrev main_v333 : Ref sig .tc := ⟨.hbm, 402, rfl⟩
abbrev main_v334 : Ref sig .tc := ⟨.hbm, 403, rfl⟩
abbrev main_v335 : Ref sig .tc := ⟨.hbm, 404, rfl⟩
abbrev main_v336 : Ref sig .tc := ⟨.hbm, 405, rfl⟩
abbrev main_v337 : Ref sig .tc := ⟨.hbm, 406, rfl⟩
abbrev main_v338 : Ref sig .tc := ⟨.hbm, 407, rfl⟩
abbrev main_v339 : Ref sig .tc := ⟨.hbm, 408, rfl⟩
abbrev main_v340 : Ref sig .tc := ⟨.hbm, 409, rfl⟩
abbrev main_v341 : Ref sig .tc := ⟨.hbm, 410, rfl⟩
abbrev main_v342 : Ref sig .tc := ⟨.hbm, 411, rfl⟩
abbrev main_cst_26 : Ref sig .tc := ⟨.hbm, 412, rfl⟩
abbrev main_v343 : Ref sig .tc := ⟨.hbm, 413, rfl⟩
abbrev main_v344 : Ref sig .tc := ⟨.hbm, 414, rfl⟩
abbrev main_v345 : Ref sig .tc := ⟨.hbm, 415, rfl⟩
abbrev main_v346 : Ref sig .tc := ⟨.hbm, 416, rfl⟩
abbrev main_v347 : Ref sig .tc := ⟨.hbm, 417, rfl⟩
abbrev main_v348 : Ref sig .tc := ⟨.hbm, 418, rfl⟩
abbrev main_v349 : Ref sig .tc := ⟨.hbm, 419, rfl⟩
abbrev main_v350 : Ref sig .tc := ⟨.hbm, 420, rfl⟩
abbrev main_v351 : Ref sig .tc := ⟨.hbm, 421, rfl⟩
abbrev main_v352 : Ref sig .tc := ⟨.hbm, 422, rfl⟩
abbrev main_v353 : Ref sig .tc := ⟨.hbm, 423, rfl⟩
abbrev main_v354 : Ref sig .tc := ⟨.hbm, 424, rfl⟩
abbrev main_v355 : Ref sig .tc := ⟨.hbm, 425, rfl⟩
abbrev main_v356 : Ref sig .tc := ⟨.hbm, 426, rfl⟩
abbrev main_v357 : Ref sig .tc := ⟨.hbm, 427, rfl⟩
abbrev main_v358 : Ref sig .tc := ⟨.hbm, 428, rfl⟩
abbrev main_v359 : Ref sig .tc := ⟨.hbm, 429, rfl⟩
abbrev main_v360 : Ref sig .tc := ⟨.hbm, 430, rfl⟩
abbrev main_v361 : Ref sig .tc := ⟨.hbm, 431, rfl⟩
abbrev main_v362 : Ref sig .tc := ⟨.hbm, 432, rfl⟩
abbrev main_v363 : Ref sig .tc := ⟨.hbm, 433, rfl⟩
abbrev main_v364 : Ref sig .tc := ⟨.hbm, 434, rfl⟩
abbrev main_v365 : Ref sig .tc := ⟨.hbm, 435, rfl⟩
abbrev main_v366 : Ref sig .tc := ⟨.hbm, 436, rfl⟩
abbrev main_v367 : Ref sig .tc := ⟨.hbm, 437, rfl⟩
abbrev main_v368 : Ref sig .tc := ⟨.hbm, 438, rfl⟩
abbrev main_cst_27 : Ref sig .tc := ⟨.hbm, 439, rfl⟩
abbrev main_v369 : Ref sig .tc := ⟨.hbm, 440, rfl⟩
abbrev main_v370 : Ref sig .tc := ⟨.hbm, 441, rfl⟩
abbrev main_cst_28 : Ref sig .tc := ⟨.hbm, 442, rfl⟩
abbrev main_v371 : Ref sig .tc := ⟨.hbm, 443, rfl⟩
abbrev main_v372 : Ref sig .tc := ⟨.hbm, 444, rfl⟩
abbrev main_v373 : Ref sig .tc := ⟨.hbm, 445, rfl⟩
abbrev main_v374 : Ref sig .tc := ⟨.hbm, 446, rfl⟩
abbrev main_v375 : Ref sig .tc := ⟨.hbm, 447, rfl⟩
abbrev main_v376 : Ref sig .tc := ⟨.hbm, 448, rfl⟩
abbrev main_v377 : Ref sig .tc := ⟨.hbm, 449, rfl⟩
abbrev main_v378 : Ref sig .tc := ⟨.hbm, 450, rfl⟩
abbrev main_v379 : Ref sig .tc := ⟨.hbm, 451, rfl⟩
abbrev main_v380 : Ref sig .tc := ⟨.hbm, 452, rfl⟩
abbrev main_v381 : Ref sig .tc := ⟨.hbm, 453, rfl⟩
abbrev main_v382 : Ref sig .tc := ⟨.hbm, 454, rfl⟩
abbrev main_v383 : Ref sig .tc := ⟨.hbm, 455, rfl⟩
abbrev main_v384 : Ref sig .tc := ⟨.hbm, 456, rfl⟩
abbrev main_v385 : Ref sig .tc := ⟨.hbm, 457, rfl⟩
abbrev main_v386 : Ref sig .tc := ⟨.hbm, 458, rfl⟩
abbrev main_cst_29 : Ref sig .tc := ⟨.hbm, 459, rfl⟩
abbrev main_v387 : Ref sig .tc := ⟨.hbm, 460, rfl⟩
abbrev main_v388 : Ref sig .tc := ⟨.hbm, 461, rfl⟩
abbrev main_v389 : Ref sig .tc := ⟨.hbm, 462, rfl⟩
abbrev main_v390 : Ref sig .tc := ⟨.hbm, 463, rfl⟩
abbrev main_v391 : Ref sig .tc := ⟨.hbm, 464, rfl⟩
abbrev main_v392 : Ref sig .tc := ⟨.hbm, 465, rfl⟩
abbrev main_v393 : Ref sig .tc := ⟨.hbm, 466, rfl⟩
abbrev main_v394 : Ref sig .tc := ⟨.hbm, 467, rfl⟩
abbrev main_v395 : Ref sig .tc := ⟨.hbm, 468, rfl⟩
abbrev main_v396 : Ref sig .tc := ⟨.hbm, 469, rfl⟩
abbrev main_v397 : Ref sig .tc := ⟨.hbm, 470, rfl⟩
abbrev main_v398 : Ref sig .tc := ⟨.hbm, 471, rfl⟩
abbrev main_v399 : Ref sig .tc := ⟨.hbm, 472, rfl⟩
abbrev main_v400 : Ref sig .tc := ⟨.hbm, 473, rfl⟩
abbrev main_v401 : Ref sig .tc := ⟨.hbm, 474, rfl⟩
abbrev main_v402 : Ref sig .tc := ⟨.hbm, 475, rfl⟩
abbrev main_v403 : Ref sig .tc := ⟨.hbm, 476, rfl⟩
abbrev main_v404 : Ref sig .tc := ⟨.hbm, 477, rfl⟩
abbrev main_v405 : Ref sig .tc := ⟨.hbm, 478, rfl⟩
abbrev main_v406 : Ref sig .tc := ⟨.hbm, 479, rfl⟩
abbrev main_v407 : Ref sig .tc := ⟨.hbm, 480, rfl⟩
abbrev main_v408 : Ref sig .tc := ⟨.hbm, 481, rfl⟩
abbrev main_v409 : Ref sig .tc := ⟨.hbm, 482, rfl⟩
abbrev main_v410 : Ref sig .tc := ⟨.hbm, 483, rfl⟩
abbrev main_v411 : Ref sig .tc := ⟨.hbm, 484, rfl⟩
abbrev main_v412 : Ref sig .tc := ⟨.hbm, 485, rfl⟩
abbrev main_cst_30 : Ref sig .tc := ⟨.hbm, 486, rfl⟩
abbrev main_v413 : Ref sig .tc := ⟨.hbm, 487, rfl⟩
abbrev main_v414 : Ref sig .tc := ⟨.hbm, 488, rfl⟩
abbrev main_cst_31 : Ref sig .tc := ⟨.hbm, 489, rfl⟩
abbrev main_v415 : Ref sig .tc := ⟨.hbm, 490, rfl⟩
abbrev main_v416 : Ref sig .tc := ⟨.hbm, 491, rfl⟩
abbrev main_v417 : Ref sig .tc := ⟨.hbm, 492, rfl⟩
abbrev main_v418 : Ref sig .tc := ⟨.hbm, 493, rfl⟩
abbrev main_v419 : Ref sig .tc := ⟨.hbm, 494, rfl⟩
abbrev main_v420 : Ref sig .tc := ⟨.hbm, 495, rfl⟩
abbrev main_v421 : Ref sig .tc := ⟨.hbm, 496, rfl⟩
abbrev main_v422 : Ref sig .tc := ⟨.hbm, 497, rfl⟩
abbrev main_v423 : Ref sig .tc := ⟨.hbm, 498, rfl⟩
abbrev main_v424 : Ref sig .tc := ⟨.hbm, 499, rfl⟩
abbrev main_v425 : Ref sig .tc := ⟨.hbm, 500, rfl⟩
abbrev main_v426 : Ref sig .tc := ⟨.hbm, 501, rfl⟩
abbrev main_v427 : Ref sig .tc := ⟨.hbm, 502, rfl⟩
abbrev main_v428 : Ref sig .tc := ⟨.hbm, 503, rfl⟩
abbrev main_v429 : Ref sig .tc := ⟨.hbm, 504, rfl⟩
abbrev main_v430 : Ref sig .tc := ⟨.hbm, 505, rfl⟩
abbrev main_cst_32 : Ref sig .tc := ⟨.hbm, 506, rfl⟩
abbrev main_v431 : Ref sig .tc := ⟨.hbm, 507, rfl⟩
abbrev main_v432 : Ref sig .tc := ⟨.hbm, 508, rfl⟩
abbrev main_v433 : Ref sig .tc := ⟨.hbm, 509, rfl⟩
abbrev main_v434 : Ref sig .tc := ⟨.hbm, 510, rfl⟩
abbrev main_v435 : Ref sig .tc := ⟨.hbm, 511, rfl⟩
abbrev main_v436 : Ref sig .tc := ⟨.hbm, 512, rfl⟩
abbrev main_v437 : Ref sig .tc := ⟨.hbm, 513, rfl⟩
abbrev main_v438 : Ref sig .tc := ⟨.hbm, 514, rfl⟩
abbrev main_v439 : Ref sig .tc := ⟨.hbm, 515, rfl⟩
abbrev main_v440 : Ref sig .tc := ⟨.hbm, 516, rfl⟩
abbrev main_v441 : Ref sig .tc := ⟨.hbm, 517, rfl⟩
abbrev main_v442 : Ref sig .tc := ⟨.hbm, 518, rfl⟩
abbrev main_v443 : Ref sig .tc := ⟨.hbm, 519, rfl⟩
abbrev main_v444 : Ref sig .tc := ⟨.hbm, 520, rfl⟩
abbrev main_v445 : Ref sig .tc := ⟨.hbm, 521, rfl⟩
abbrev main_v446 : Ref sig .tc := ⟨.hbm, 522, rfl⟩
abbrev main_v447 : Ref sig .tc := ⟨.hbm, 523, rfl⟩
abbrev main_v448 : Ref sig .tc := ⟨.hbm, 524, rfl⟩
abbrev main_v449 : Ref sig .tc := ⟨.hbm, 525, rfl⟩
abbrev main_v450 : Ref sig .tc := ⟨.hbm, 526, rfl⟩
abbrev main_v451 : Ref sig .tc := ⟨.hbm, 527, rfl⟩
abbrev main_v452 : Ref sig .tc := ⟨.hbm, 528, rfl⟩
abbrev main_v453 : Ref sig .tc := ⟨.hbm, 529, rfl⟩
abbrev main_v454 : Ref sig .tc := ⟨.hbm, 530, rfl⟩
abbrev main_v455 : Ref sig .tc := ⟨.hbm, 531, rfl⟩
abbrev main_v456 : Ref sig .tc := ⟨.hbm, 532, rfl⟩
abbrev main_cst_33 : Ref sig .tc := ⟨.hbm, 533, rfl⟩
abbrev main_v457 : Ref sig .tc := ⟨.hbm, 534, rfl⟩
abbrev main_v458 : Ref sig .tc := ⟨.hbm, 535, rfl⟩
abbrev main_cst_34 : Ref sig .tc := ⟨.hbm, 536, rfl⟩
abbrev main_v459 : Ref sig .tc := ⟨.hbm, 537, rfl⟩
abbrev main_v460 : Ref sig .tc := ⟨.hbm, 538, rfl⟩
abbrev main_v461 : Ref sig .tc := ⟨.hbm, 539, rfl⟩
abbrev main_v462 : Ref sig .tc := ⟨.hbm, 540, rfl⟩
abbrev main_v463 : Ref sig .tc := ⟨.hbm, 541, rfl⟩
abbrev main_v464 : Ref sig .tc := ⟨.hbm, 542, rfl⟩
abbrev main_v465 : Ref sig .tc := ⟨.hbm, 543, rfl⟩
abbrev main_v466 : Ref sig .tc := ⟨.hbm, 544, rfl⟩
abbrev main_v467 : Ref sig .tc := ⟨.hbm, 545, rfl⟩
abbrev main_v468 : Ref sig .tc := ⟨.hbm, 546, rfl⟩
abbrev main_v469 : Ref sig .tc := ⟨.hbm, 547, rfl⟩
abbrev main_v470 : Ref sig .tc := ⟨.hbm, 548, rfl⟩
abbrev main_v471 : Ref sig .tc := ⟨.hbm, 549, rfl⟩
abbrev main_v472 : Ref sig .tc := ⟨.hbm, 550, rfl⟩
abbrev main_v473 : Ref sig .tc := ⟨.hbm, 551, rfl⟩
abbrev main_v474 : Ref sig .tc := ⟨.hbm, 552, rfl⟩
abbrev main_cst_35 : Ref sig .tc := ⟨.hbm, 553, rfl⟩
abbrev main_v475 : Ref sig .tc := ⟨.hbm, 554, rfl⟩
abbrev main_v476 : Ref sig .tc := ⟨.hbm, 555, rfl⟩
abbrev main_v477 : Ref sig .tc := ⟨.hbm, 556, rfl⟩
abbrev main_v478 : Ref sig .tc := ⟨.hbm, 557, rfl⟩
abbrev main_v479 : Ref sig .tc := ⟨.hbm, 558, rfl⟩
abbrev main_v480 : Ref sig .tc := ⟨.hbm, 559, rfl⟩
abbrev main_v481 : Ref sig .tc := ⟨.hbm, 560, rfl⟩
abbrev main_v482 : Ref sig .tc := ⟨.hbm, 561, rfl⟩
abbrev main_v483 : Ref sig .tc := ⟨.hbm, 562, rfl⟩
abbrev main_v484 : Ref sig .tc := ⟨.hbm, 563, rfl⟩
abbrev main_v485 : Ref sig .tc := ⟨.hbm, 564, rfl⟩
abbrev main_v486 : Ref sig .tc := ⟨.hbm, 565, rfl⟩
abbrev main_v487 : Ref sig .tc := ⟨.hbm, 566, rfl⟩
abbrev main_v488 : Ref sig .tc := ⟨.hbm, 567, rfl⟩
abbrev main_v489 : Ref sig .tc := ⟨.hbm, 568, rfl⟩
abbrev main_v490 : Ref sig .tc := ⟨.hbm, 569, rfl⟩
abbrev main_v491 : Ref sig .tc := ⟨.hbm, 570, rfl⟩
abbrev main_v492 : Ref sig .tc := ⟨.hbm, 571, rfl⟩
abbrev main_v493 : Ref sig .tc := ⟨.hbm, 572, rfl⟩
abbrev main_v494 : Ref sig .tc := ⟨.hbm, 573, rfl⟩
abbrev main_v495 : Ref sig .tc := ⟨.hbm, 574, rfl⟩
abbrev main_v496 : Ref sig .tc := ⟨.hbm, 575, rfl⟩
abbrev main_v497 : Ref sig .tc := ⟨.hbm, 576, rfl⟩
abbrev main_v498 : Ref sig .tc := ⟨.hbm, 577, rfl⟩
abbrev main_v499 : Ref sig .tc := ⟨.hbm, 578, rfl⟩
abbrev main_v500 : Ref sig .tc := ⟨.hbm, 579, rfl⟩
abbrev main_cst_36 : Ref sig .tc := ⟨.hbm, 580, rfl⟩
abbrev main_v501 : Ref sig .tc := ⟨.hbm, 581, rfl⟩
abbrev main_v502 : Ref sig .tc := ⟨.hbm, 582, rfl⟩
abbrev main_cst_37 : Ref sig .tc := ⟨.hbm, 583, rfl⟩
abbrev main_v503 : Ref sig .tc := ⟨.hbm, 584, rfl⟩
abbrev main_v504 : Ref sig .tc := ⟨.hbm, 585, rfl⟩
abbrev main_v505 : Ref sig .tc := ⟨.hbm, 586, rfl⟩
abbrev main_v506 : Ref sig .tc := ⟨.hbm, 587, rfl⟩
abbrev main_v507 : Ref sig .tc := ⟨.hbm, 588, rfl⟩
abbrev main_v508 : Ref sig .tc := ⟨.hbm, 589, rfl⟩
abbrev main_v509 : Ref sig .tc := ⟨.hbm, 590, rfl⟩
abbrev main_v510 : Ref sig .tc := ⟨.hbm, 591, rfl⟩
abbrev main_v511 : Ref sig .tc := ⟨.hbm, 592, rfl⟩
abbrev main_v512 : Ref sig .tc := ⟨.hbm, 593, rfl⟩
abbrev main_v513 : Ref sig .tc := ⟨.hbm, 594, rfl⟩
abbrev main_v514 : Ref sig .tc := ⟨.hbm, 595, rfl⟩
abbrev main_v515 : Ref sig .tc := ⟨.hbm, 596, rfl⟩
abbrev main_v516 : Ref sig .tc := ⟨.hbm, 597, rfl⟩
abbrev main_v517 : Ref sig .tc := ⟨.hbm, 598, rfl⟩
abbrev main_v518 : Ref sig .tc := ⟨.hbm, 599, rfl⟩
abbrev main_cst_38 : Ref sig .tc := ⟨.hbm, 600, rfl⟩
abbrev main_v519 : Ref sig .tc := ⟨.hbm, 601, rfl⟩
abbrev main_v520 : Ref sig .tc := ⟨.hbm, 602, rfl⟩
abbrev main_v521 : Ref sig .tc := ⟨.hbm, 603, rfl⟩
abbrev main_v522 : Ref sig .tc := ⟨.hbm, 604, rfl⟩
abbrev main_v523 : Ref sig .tc := ⟨.hbm, 605, rfl⟩
abbrev main_v524 : Ref sig .tc := ⟨.hbm, 606, rfl⟩
abbrev main_v525 : Ref sig .tc := ⟨.hbm, 607, rfl⟩
abbrev main_v526 : Ref sig .tc := ⟨.hbm, 608, rfl⟩
abbrev main_v527 : Ref sig .tc := ⟨.hbm, 609, rfl⟩
abbrev main_v528 : Ref sig .tc := ⟨.hbm, 610, rfl⟩
abbrev main_v529 : Ref sig .tc := ⟨.hbm, 611, rfl⟩
abbrev main_v530 : Ref sig .tc := ⟨.hbm, 612, rfl⟩
abbrev main_v531 : Ref sig .tc := ⟨.hbm, 613, rfl⟩
abbrev main_v532 : Ref sig .tc := ⟨.hbm, 614, rfl⟩
abbrev main_v533 : Ref sig .tc := ⟨.hbm, 615, rfl⟩
abbrev main_v534 : Ref sig .tc := ⟨.hbm, 616, rfl⟩
abbrev main_v535 : Ref sig .tc := ⟨.hbm, 617, rfl⟩
abbrev main_v536 : Ref sig .tc := ⟨.hbm, 618, rfl⟩
abbrev main_v537 : Ref sig .tc := ⟨.hbm, 619, rfl⟩
abbrev main_v538 : Ref sig .tc := ⟨.hbm, 620, rfl⟩
abbrev main_v539 : Ref sig .tc := ⟨.hbm, 621, rfl⟩
abbrev main_v540 : Ref sig .tc := ⟨.hbm, 622, rfl⟩
abbrev main_v541 : Ref sig .tc := ⟨.hbm, 623, rfl⟩
abbrev main_v542 : Ref sig .tc := ⟨.hbm, 624, rfl⟩
abbrev main_v543 : Ref sig .tc := ⟨.hbm, 625, rfl⟩
abbrev main_v544 : Ref sig .tc := ⟨.hbm, 626, rfl⟩
abbrev main_cst_39 : Ref sig .tc := ⟨.hbm, 627, rfl⟩
abbrev main_v545 : Ref sig .tc := ⟨.hbm, 628, rfl⟩
abbrev main_v546 : Ref sig .tc := ⟨.hbm, 629, rfl⟩
abbrev main_cst_40 : Ref sig .tc := ⟨.hbm, 630, rfl⟩
abbrev main_v547 : Ref sig .tc := ⟨.hbm, 631, rfl⟩
abbrev main_v548 : Ref sig .tc := ⟨.hbm, 632, rfl⟩
abbrev main_v549 : Ref sig .tc := ⟨.hbm, 633, rfl⟩
abbrev main_v550 : Ref sig .tc := ⟨.hbm, 634, rfl⟩
abbrev main_v551 : Ref sig .tc := ⟨.hbm, 635, rfl⟩
abbrev main_v552 : Ref sig .tc := ⟨.hbm, 636, rfl⟩
abbrev main_v553 : Ref sig .tc := ⟨.hbm, 637, rfl⟩
abbrev main_v554 : Ref sig .tc := ⟨.hbm, 638, rfl⟩
abbrev main_v555 : Ref sig .tc := ⟨.hbm, 639, rfl⟩
abbrev main_v556 : Ref sig .tc := ⟨.hbm, 640, rfl⟩
abbrev main_v557 : Ref sig .tc := ⟨.hbm, 641, rfl⟩
abbrev main_v558 : Ref sig .tc := ⟨.hbm, 642, rfl⟩
abbrev main_v559 : Ref sig .tc := ⟨.hbm, 643, rfl⟩
abbrev main_v560 : Ref sig .tc := ⟨.hbm, 644, rfl⟩
abbrev main_v561 : Ref sig .tc := ⟨.hbm, 645, rfl⟩
abbrev main_v562 : Ref sig .tc := ⟨.hbm, 646, rfl⟩
abbrev main_cst_41 : Ref sig .tc := ⟨.hbm, 647, rfl⟩
abbrev main_v563 : Ref sig .tc := ⟨.hbm, 648, rfl⟩
abbrev main_v564 : Ref sig .tc := ⟨.hbm, 649, rfl⟩
abbrev main_v565 : Ref sig .tc := ⟨.hbm, 650, rfl⟩
abbrev main_v566 : Ref sig .tc := ⟨.hbm, 651, rfl⟩
abbrev main_v567 : Ref sig .tc := ⟨.hbm, 652, rfl⟩
abbrev main_v568 : Ref sig .tc := ⟨.hbm, 653, rfl⟩
abbrev main_v569 : Ref sig .tc := ⟨.hbm, 654, rfl⟩
abbrev main_v570 : Ref sig .tc := ⟨.hbm, 655, rfl⟩
abbrev main_v571 : Ref sig .tc := ⟨.hbm, 656, rfl⟩
abbrev main_v572 : Ref sig .tc := ⟨.hbm, 657, rfl⟩
abbrev main_v573 : Ref sig .tc := ⟨.hbm, 658, rfl⟩
abbrev main_v574 : Ref sig .tc := ⟨.hbm, 659, rfl⟩
abbrev main_v575 : Ref sig .tc := ⟨.hbm, 660, rfl⟩

abbrev nD : Nat := 1
abbrev τ : Topo := Topo.v7x

variable {F : FTy → Type} [FloatOps F]
-- ==== Proof.Reads.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.Pipeline.ValueKit.Basic
public import Idealize.ShloMosaic.Lib.Pipeline.ReadBack
public import Idealize.ShloMosaic.Lib.Pointwise

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.View
open Idealize.ShloMosaic.Pipeline (Dat Cfg Window BodyObligation cellOf)

variable {F : FTy → Type} [FloatOps F]

local notation "𝕄" => MT nD τ sig Unit (Elt F) ℕ (UR sig nD τ) ℕ

/-- A load of a whole buffer through a box at the origin reads its contents. -/
theorem readAt_origin {sp : Space} {S : Shape} {e : EltTy} {m : Memref sig .tc sp S e} (h : m.IsWhole) {off : Fin S.rank → ℕ}
    (inb : ∀ a, off a + S.size a ≤ S.size a) (X : S.Idx → Elt F e) (h0 : ∀ a, off a = 0) :
    View.readAt (Elt F) m.view (Rect.unit off S.size inb).toLoadRect (h.unread X) = X :=
  (funext fun x => Memref.IsWhole.readAt_unread h X _ x).trans (View.ld_unit_lit inb X h0)

/-- A load of a whole buffer through any box reads its contents at the box. -/
theorem readAt_box {sp : Space} {S : Shape} {e : EltTy} {m : Memref sig .tc sp S e} (h : m.IsWhole) (r : Rect S) (X : S.Idx → Elt F e) :
    View.readAt (Elt F) m.view r.toLoadRect (h.unread X) = View.ld X r :=
  funext fun x => Memref.IsWhole.readAt_unread h X _ x

/-- An element under the last rectangle written reads the payload. -/
theorem read_cons_at {sp : Space} {S : Shape} {e : EltTy} (v : View sig .tc sp S e) (f : v.ty.Contents (Elt F)) (r : Rect S)
    (w : r.shape.Idx → Elt F e) (L : List (Piece (Elt F) S e)) (x : r.shape.Idx) (y : S.Idx) (h : y = r.emb x) :
    v.read (Elt F) (v.writes (Elt F) f (⟨r, w⟩ :: L)) y = w x := by
  subst h; exact View.read_writes_cons_emb v f r w L x

/-- An element outside the last rectangle written reads what was there before. -/
theorem read_cons_off {sp : Space} {S : Shape} {e : EltTy} (v : View sig .tc sp S e) (f : v.ty.Contents (Elt F)) (r : Rect S)
    (w : r.shape.Idx → Elt F e) (L : List (Piece (Elt F) S e)) (y : S.Idx) (h : ∀ x, r.emb x ≠ y) :
    v.read (Elt F) (v.writes (Elt F) f (⟨r, w⟩ :: L)) y = v.read (Elt F) (v.writes (Elt F) f L) y :=
  View.read_slice_write_of_not_mem (v := v) r _ w Finset.univ fun hm => by
    obtain ⟨x, -, hx⟩ := Finset.mem_map.mp hm
    exact h x hx

/-- Two arrays of half the rows, the first on the even rows and the second on the odd ones. -/
def rows2 {α : Type} (p0 p1 : S5000x64.Idx → α) : S10000x64.Idx → α := fun y =>
  if (y 0).val % 2 = 1 then p1 (ix2 (n0 := 5000) (n1 := 64) ⟨(y 0).val / 2, by have : (y 0).val < 10000 := (y 0).isLt; omega⟩ (y 1))
  else p0 (ix2 (n0 := 5000) (n1 := 64) ⟨(y 0).val / 2, by have : (y 0).val < 10000 := (y 0).isLt; omega⟩ (y 1))

/-- A load of a buffer last written on its odd rows and just before on its even rows reads the two payloads interleaved. -/
theorem read_rows2 {sp : Space} {e : EltTy} (v : View sig .tc sp S10000x64 e) (f : v.ty.Contents (Elt F)) (inb0 inb1 sp0 sp1)
    (p0 p1 : S5000x64.Idx → Elt F e) (L : List (Piece (Elt F) S10000x64 e)) (inb : ∀ a, (![0, 0] : Fin 2 → ℕ) a + (![10000, 64] : Fin 2 → ℕ) a ≤ S10000x64.size a) :
    View.readAt (Elt F) v (Rect.unit (s := S10000x64) ![0, 0] ![10000, 64] inb).toLoadRect
      (v.writes (Elt F) f (⟨⟨(⟨![1, 0], ![5000, 64], ![2, 1], inb1⟩ : LoadRect S10000x64), sp1⟩, p1⟩
        :: ⟨⟨(⟨![0, 0], ![5000, 64], ![2, 1], inb0⟩ : LoadRect S10000x64), sp0⟩, p0⟩ :: L)) = rows2 p0 p1 := by
  funext y
  rw [View.readAt_apply, show (Rect.unit (s := S10000x64) ![0, 0] S10000x64.size inb).toLoadRect.idx y = y from
    (congrFun (View.ld_unit_lit (Val := fun _ => S10000x64.Idx) (e := .f32) inb id (by decide)) y)]
  have hy : (y 0).val < 10000 := (y 0).isLt
  unfold rows2
  split
  · rename_i h
    have hemb : y = (⟨(⟨![1, 0], S5000x64.size, ![2, 1], inb1⟩ : LoadRect S10000x64), sp1⟩ : Rect S10000x64).emb
        (ix2 (n0 := 5000) (n1 := 64) ⟨(y 0).val / 2, by omega⟩ (y 1)) := by
      funext a
      refine Fin.ext ?_
      fin_cases a
      · show (y 0).val = 1 + 2 * ((y 0).val / 2); omega
      · show (y 1).val = 0 + 1 * (y 1).val; omega
    exact read_cons_at v f ⟨(⟨![1, 0], S5000x64.size, ![2, 1], inb1⟩ : LoadRect S10000x64), sp1⟩ p1 _ (ix2 (n0 := 5000) (n1 := 64) ⟨(y 0).val / 2, by omega⟩ (y 1)) y hemb
  · rename_i h
    refine (read_cons_off v f ⟨(⟨![1, 0], S5000x64.size, ![2, 1], inb1⟩ : LoadRect S10000x64), sp1⟩ p1 _ y fun x hx => ?_).trans ?_
    · have := congrArg (fun z : S10000x64.Idx => (z 0).val) hx
      change 1 + 2 * (x 0).val = (y 0).val at this
      omega
    have hemb : y = (⟨(⟨![0, 0], S5000x64.size, ![2, 1], inb0⟩ : LoadRect S10000x64), sp0⟩ : Rect S10000x64).emb
        (ix2 (n0 := 5000) (n1 := 64) ⟨(y 0).val / 2, by omega⟩ (y 1)) := by
      funext a
      refine Fin.ext ?_
      fin_cases a
      · show (y 0).val = 0 + 2 * ((y 0).val / 2); omega
      · show (y 1).val = 0 + 1 * (y 1).val; omega
    exact read_cons_at v f ⟨(⟨![0, 0], S5000x64.size, ![2, 1], inb0⟩ : LoadRect S10000x64), sp0⟩ p0 _ (ix2 (n0 := 5000) (n1 := 64) ⟨(y 0).val / 2, by omega⟩ (y 1)) y hemb

end Cert.KernelIdeal.Own

end
-- ==== Proof.GruVal.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Reads
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.WritesUnit
public import Idealize.ShloMosaic.Lib.Pipeline.ValueKit.Basic
public import Idealize.ShloMosaic.Lib.Pipeline.ReadBack
public import Idealize.ShloMosaic.Lib.Pointwise

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.View
open Idealize.ShloMosaic.Pipeline (Dat Cfg Window BodyObligation cellOf)

variable {F : FTy → Type} [FloatOps F]

local notation "𝕄" => MT nD τ sig Unit (Elt F) ℕ (UR sig nD τ) ℕ

/-- The gates' lower rows. -/
def halfLo (a : Vec F S10000x128 .bf16) : Vec F S5000x128 .bf16 :=
  View.ld a (Rect.unit (s := S10000x128) ![0, 0] S5000x128.size inb_S10000x128_S5000x128_0_0)

/-- The gates' upper rows. -/
def halfHi (a : Vec F S10000x128 .bf16) : Vec F S5000x128 .bf16 :=
  View.ld a (Rect.unit (s := S10000x128) ![5000, 0] S5000x128.size inb_S10000x128_S5000x128_5000_0)

/-- The reset gate: the lower rows' two column halves, interleaved by rows. -/
def gruR (a : Vec F S10000x128 .bf16) : Vec F S10000x64 .f32 :=
  rows2 (k1_pay9 (k1_pay7 (halfLo a))) (k1_pay10 (k1_pay7 (halfLo a)))

/-- The update gate: the upper rows' two column halves, interleaved by rows. -/
def gruU (a : Vec F S10000x128 .bf16) : Vec F S10000x64 .f32 :=
  rows2 (k1_pay11 (k1_pay8 (halfHi a))) (k1_pay12 (k1_pay8 (halfHi a)))

/-- One batch element's next state from its gates. -/
def gruNext (a : Vec F S10000x128 .bf16) (h : Vec F S10000x64 .f32) (ir : Vec F S1x1x10000 .f32) (ftc : Vec F S10000x64 .f32)
    (w2h : Vec F S64x64 .f32) (w2r b2 : Vec F S1x64 .f32) (wlt : Vec F S64x64 .f32) : Vec F S10000x64 .f32 :=
  k1_pay14 (k1_pay3 ftc) (k1_pay4 h) (k1_pay13 (k1_pay4 h) (k1_pay5 ir) (gruR a) w2h w2r b2) (gruU a) wlt

/-- One batch element's next state. -/
def gruSlab (ir : Vec F S1x1x10000 .f32) (ftc : Vec F S10000x64 .f32) (w1h : Vec F S64x128 .f32) (w1r b1 : Vec F S1x128 .f32)
    (w2h : Vec F S64x64 .f32) (w2r b2 : Vec F S1x64 .f32) (wlt : Vec F S64x64 .f32) (h : Vec F S10000x64 .f32) : Vec F S10000x64 .f32 :=
  gruNext (k1_pay6 h ir w1h w1r b1) h ir ftc w2h w2r b2 wlt

/-- The input row of batch element `b` at a point. -/
def inRow (i : grid1.Coords) (b : Fin 4) (x0 : Vec F S12x4x10000 .f32) : Vec F S1x1x10000 .f32 := fun j =>
  x0 (ix3 (n0 := 12) (n1 := 4) (n2 := 10000) (i 0) b (j 2))

/-- The state of batch element `b`. -/
def slabOf (b : Fin 4) (xo : Vec F S40000x64 .f32) : Vec F S10000x64 .f32 := fun j =>
  xo (ix2 (n0 := 40000) (n1 := 64) ⟨10000 * b.val + (j 0).val, by have h : (j 0).val < 10000 := (j 0).isLt; have := b.isLt; omega⟩ (j 1))

/-- One point of the recurrence: every batch element's next state, one below the other. -/
def gruOut (i : grid1.Coords) (x0 : Vec F S12x4x10000 .f32) (x1 : Vec F S10000x64 .f32) (x2 : Vec F S64x128 .f32) (x3 x4 : Vec F S1x128 .f32)
    (x5 : Vec F S64x64 .f32) (x6 x7 : Vec F S1x64 .f32) (x8 : Vec F S64x64 .f32) (xo : Vec F S40000x64 .f32) : Vec F S40000x64 .f32 := fun y =>
  have h : (y 0).val < 40000 := (y 0).isLt
  let b : Fin 4 := ⟨(y 0).val / 10000, by omega⟩
  gruSlab (inRow i b x0) x1 x2 x3 x4 x5 x6 x7 x8 (slabOf b xo)
    (ix2 (n0 := 10000) (n1 := 64) ⟨(y 0).val % 10000, by omega⟩ (y 1))

/-- The value at a row of batch element `b`. -/
theorem gruOut_at (i : grid1.Coords) (x0 : Vec F S12x4x10000 .f32) (x1 : Vec F S10000x64 .f32) (x2 : Vec F S64x128 .f32) (x3 x4 : Vec F S1x128 .f32)
    (x5 : Vec F S64x64 .f32) (x6 x7 : Vec F S1x64 .f32) (x8 : Vec F S64x64 .f32) (xo : Vec F S40000x64 .f32)
    (b : Fin 4) (y : S40000x64.Idx) (x : S10000x64.Idx) (h0 : (y 0).val = 10000 * b.val + (x 0).val) (h1 : (y 1).val = (x 1).val) :
    gruOut i x0 x1 x2 x3 x4 x5 x6 x7 x8 xo y = gruSlab (inRow i b x0) x1 x2 x3 x4 x5 x6 x7 x8 (slabOf b xo) x := by
  have hx : (x 0).val < 10000 := (x 0).isLt
  have hb : (⟨(y 0).val / 10000, by have := b.isLt; omega⟩ : Fin 4) = b := Fin.ext (by show (y 0).val / 10000 = b.val; omega)
  have hi : (ix2 (n0 := 10000) (n1 := 64) ⟨(y 0).val % 10000, by omega⟩ (y 1)) = x := by
    funext a; refine Fin.ext ?_
    match a with
    | ⟨0, _⟩ => show (y 0).val % 10000 = (x 0).val; omega
    | ⟨1, _⟩ => exact h1
  unfold gruOut
  dsimp only
  rw [hb, hi]

/-- The body at the second batch element computes the same function. -/
theorem slab1_eq (h ftc) (ir : Vec F S1x1x10000 .f32) (w1h : Vec F S64x128 .f32) (w1r b1 : Vec F S1x128 .f32) (w2h : Vec F S64x64 .f32) (w2r b2 : Vec F S1x64 .f32) (wlt : Vec F S64x64 .f32) (r u : Vec F S10000x64 .f32) :
    k1_pay26 (k1_pay3 ftc) (k1_pay15 h) (k1_pay24 (k1_pay15 h) (k1_pay16 ir) r w2h w2r) (k1_pay25 b2) u wlt
      = k1_pay14 (k1_pay3 (F := F) ftc) (k1_pay4 h) (k1_pay13 (k1_pay4 h) (k1_pay5 ir) r w2h w2r b2) u wlt := rfl

/-- The body at the third batch element computes the same function. -/
theorem slab2_eq (h ftc) (ir : Vec F S1x1x10000 .f32) (w2h : Vec F S64x64 .f32) (w2r b2 : Vec F S1x64 .f32) (wlt : Vec F S64x64 .f32) (r u : Vec F S10000x64 .f32) :
    k1_pay39 (k1_pay3 ftc) (k1_pay27 h) (k1_pay28 ir) (k1_pay37 (k1_pay27 h) r w2h) (k1_pay38 w2r) b2 u wlt
      = k1_pay14 (k1_pay3 (F := F) ftc) (k1_pay4 h) (k1_pay13 (k1_pay4 h) (k1_pay5 ir) r w2h w2r b2) u wlt := rfl

/-- The body at the fourth batch element computes the same function. -/
theorem slab3_eq (h ftc) (ir : Vec F S1x1x10000 .f32) (w2h : Vec F S64x64 .f32) (w2r b2 : Vec F S1x64 .f32) (wlt : Vec F S64x64 .f32) (r u : Vec F S10000x64 .f32) :
    k1_pay1 (k1_pay3 ftc) (k1_pay40 h) (k1_pay41 ir) (k1_pay51 (k1_pay40 h) r) w2h w2r b2 u wlt
      = k1_pay14 (k1_pay3 (F := F) ftc) (k1_pay4 h) (k1_pay13 (k1_pay4 h) (k1_pay5 ir) r w2h w2r b2) u wlt := rfl

/-- The gates of the second batch element. -/
theorem gates1_eq (h : Vec F S10000x64 .f32) (ir w1h w1r b1) : k1_pay17 h ir w1h w1r b1 = k1_pay6 (F := F) h ir w1h w1r b1 := rfl

/-- The gates of the third batch element. -/
theorem gates2_eq (h : Vec F S10000x64 .f32) (ir w1h w1r b1) : k1_pay30 (k1_pay29 h ir w1h w1r b1) = k1_pay6 (F := F) h ir w1h w1r b1 := rfl

/-- The gates of the fourth batch element. -/
theorem gates3_eq (h : Vec F S10000x64 .f32) (ir w1h w1r b1) :
    k1_pay44 (k1_pay41 ir) (k1_pay42 h w1h) (k1_pay43 w1r) (constant S10000x128 .f32 0x00000000#32) b1 = k1_pay6 (F := F) h ir w1h w1r b1 := rfl

/-- The body's text at batch element 0 is the one-element step. -/
theorem text0 (h ftc : Vec F S10000x64 .f32) (ir : Vec F S1x1x10000 .f32) (w1h : Vec F S64x128 .f32) (w1r b1 : Vec F S1x128 .f32) (w2h : Vec F S64x64 .f32) (w2r b2 : Vec F S1x64 .f32) (wlt : Vec F S64x64 .f32) :
    k1_pay14 (k1_pay3 ftc) (k1_pay4 h) (k1_pay13 (k1_pay4 h) (k1_pay5 ir) (rows2 (k1_pay9 (k1_pay7 (halfLo (k1_pay6 h ir w1h w1r b1)))) (k1_pay10 (k1_pay7 (halfLo (k1_pay6 h ir w1h w1r b1))))) w2h w2r b2) (rows2 (k1_pay11 (k1_pay8 (halfHi (k1_pay6 h ir w1h w1r b1)))) (k1_pay12 (k1_pay8 (halfHi (k1_pay6 h ir w1h w1r b1))))) wlt = gruSlab (F := F) ir ftc w1h w1r b1 w2h w2r b2 wlt h := rfl

/-- The body's text at batch element 1 is the one-element step. -/
theorem text1 (h ftc : Vec F S10000x64 .f32) (ir : Vec F S1x1x10000 .f32) (w1h : Vec F S64x128 .f32) (w1r b1 : Vec F S1x128 .f32) (w2h : Vec F S64x64 .f32) (w2r b2 : Vec F S1x64 .f32) (wlt : Vec F S64x64 .f32) :
    k1_pay26 (k1_pay3 ftc) (k1_pay15 h) (k1_pay24 (k1_pay15 h) (k1_pay16 ir) (rows2 (k1_pay20 (halfLo (k1_pay17 h ir w1h w1r b1))) (k1_pay21 (halfLo (k1_pay17 h ir w1h w1r b1)))) w2h w2r) (k1_pay25 b2) (rows2 (k1_pay22 (halfHi (k1_pay17 h ir w1h w1r b1))) (k1_pay23 (halfHi (k1_pay17 h ir w1h w1r b1)))) wlt = gruSlab (F := F) ir ftc w1h w1r b1 w2h w2r b2 wlt h := by
  refine Eq.trans ?_ (congrArg (fun a => gruNext a h ir ftc w2h w2r b2 wlt) (gates1_eq h ir w1h w1r b1))
  exact slab1_eq h ftc ir w1h w1r b1 w2h w2r b2 wlt _ _

/-- The body's text at batch element 2 is the one-element step. -/
theorem text2 (h ftc : Vec F S10000x64 .f32) (ir : Vec F S1x1x10000 .f32) (w1h : Vec F S64x128 .f32) (w1r b1 : Vec F S1x128 .f32) (w2h : Vec F S64x64 .f32) (w2r b2 : Vec F S1x64 .f32) (wlt : Vec F S64x64 .f32) :
    k1_pay39 (k1_pay3 ftc) (k1_pay27 h) (k1_pay28 ir) (k1_pay37 (k1_pay27 h) (rows2 (k1_pay33 (halfLo (k1_pay30 (k1_pay29 h ir w1h w1r b1)))) (k1_pay34 (halfLo (k1_pay30 (k1_pay29 h ir w1h w1r b1))))) w2h) (k1_pay38 w2r) b2 (rows2 (k1_pay35 (halfHi (k1_pay30 (k1_pay29 h ir w1h w1r b1)))) (k1_pay36 (halfHi (k1_pay30 (k1_pay29 h ir w1h w1r b1))))) wlt = gruSlab (F := F) ir ftc w1h w1r b1 w2h w2r b2 wlt h := by
  refine Eq.trans ?_ (congrArg (fun a => gruNext a h ir ftc w2h w2r b2 wlt) (gates2_eq h ir w1h w1r b1))
  exact slab2_eq h ftc ir w2h w2r b2 wlt _ _

/-- The body's text at batch element 3 is the one-element step. -/
theorem text3 (h ftc : Vec F S10000x64 .f32) (ir : Vec F S1x1x10000 .f32) (w1h : Vec F S64x128 .f32) (w1r b1 : Vec F S1x128 .f32) (w2h : Vec F S64x64 .f32) (w2r b2 : Vec F S1x64 .f32) (wlt : Vec F S64x64 .f32) :
    k1_pay1 (k1_pay3 ftc) (k1_pay40 h) (k1_pay41 ir) (k1_pay51 (k1_pay40 h) (rows2 (k1_pay47 (halfLo (k1_pay44 (k1_pay41 ir) (k1_pay42 h w1h) (k1_pay43 w1r) (constant S10000x128 .f32 0x00000000#32) b1))) (k1_pay48 (halfLo (k1_pay44 (k1_pay41 ir) (k1_pay42 h w1h) (k1_pay43 w1r) (constant S10000x128 .f32 0x00000000#32) b1))))) w2h w2r b2 (rows2 (k1_pay49 (halfHi (k1_pay44 (k1_pay41 ir) (k1_pay42 h w1h) (k1_pay43 w1r) (constant S10000x128 .f32 0x00000000#32) b1))) (k1_pay50 (halfHi (k1_pay44 (k1_pay41 ir) (k1_pay42 h w1h) (k1_pay43 w1r) (constant S10000x128 .f32 0x00000000#32) b1)))) wlt = gruSlab (F := F) ir ftc w1h w1r b1 w2h w2r b2 wlt h := by
  refine Eq.trans ?_ (congrArg (fun a => gruNext a h ir ftc w2h w2r b2 wlt) (gates3_eq h ir w1h w1r b1))
  exact slab3_eq h ftc ir w2h w2r b2 wlt _ _

/-- Four batch elements' rows, stored one below the other, read as the point's result. -/
theorem read_four {sp : Space} (v : View sig .tc sp S40000x64 .f32) (f : v.ty.Contents (Elt F)) (inb0 inb1 inb2 inb3)
    (p0 p1 p2 p3 : S10000x64.Idx → Elt F .f32) (L : List (Piece (Elt F) S40000x64 .f32))
    (i : grid1.Coords) (x0 : Vec F S12x4x10000 .f32) (x1 : Vec F S10000x64 .f32) (x2 : Vec F S64x128 .f32) (x3 x4 : Vec F S1x128 .f32)
    (x5 : Vec F S64x64 .f32) (x6 x7 : Vec F S1x64 .f32) (x8 : Vec F S64x64 .f32) (xo : Vec F S40000x64 .f32)
    (h0 : p0 = gruSlab (inRow i 0 x0) x1 x2 x3 x4 x5 x6 x7 x8 (slabOf 0 xo))
    (h1 : p1 = gruSlab (inRow i 1 x0) x1 x2 x3 x4 x5 x6 x7 x8 (slabOf 1 xo))
    (h2 : p2 = gruSlab (inRow i 2 x0) x1 x2 x3 x4 x5 x6 x7 x8 (slabOf 2 xo))
    (h3 : p3 = gruSlab (inRow i 3 x0) x1 x2 x3 x4 x5 x6 x7 x8 (slabOf 3 xo)) :
    v.read (Elt F) (v.writes (Elt F) f (⟨Rect.unit (s := S40000x64) ![30000, 0] S10000x64.size inb3, p3⟩
      :: ⟨Rect.unit (s := S40000x64) ![20000, 0] S10000x64.size inb2, p2⟩ :: ⟨Rect.unit (s := S40000x64) ![10000, 0] S10000x64.size inb1, p1⟩
      :: ⟨Rect.unit (s := S40000x64) ![0, 0] S10000x64.size inb0, p0⟩ :: L)) = gruOut i x0 x1 x2 x3 x4 x5 x6 x7 x8 xo := by
  funext y
  have hy : (y 0).val < 40000 := (y 0).isLt
  by_cases c3 : 30000 ≤ (y 0).val
  · rw [View.read_writes_cons_rows_of_mem (d := ![40000, 64]) v f inb3 p3 _ y (ix2 (n0 := 10000) (n1 := 64) ⟨(y 0).val - 30000, by omega⟩ (y 1)) rfl
      (by show (y 0).val = 30000 + ((y 0).val - 30000); omega) rfl, h3]
    exact (gruOut_at i x0 x1 x2 x3 x4 x5 x6 x7 x8 xo 3 y _ (by show (y 0).val = 10000 * 3 + ((y 0).val - 30000); omega) rfl).symm
  rw [View.read_writes_cons_rows_of_not_mem (d := ![40000, 64]) (W := 10000) v f inb3 p3 _ y rfl rfl (.inl (by omega))]
  by_cases c2 : 20000 ≤ (y 0).val
  · rw [View.read_writes_cons_rows_of_mem (d := ![40000, 64]) v f inb2 p2 _ y (ix2 (n0 := 10000) (n1 := 64) ⟨(y 0).val - 20000, by omega⟩ (y 1)) rfl
      (by show (y 0).val = 20000 + ((y 0).val - 20000); omega) rfl, h2]
    exact (gruOut_at i x0 x1 x2 x3 x4 x5 x6 x7 x8 xo 2 y _ (by show (y 0).val = 10000 * 2 + ((y 0).val - 20000); omega) rfl).symm
  rw [View.read_writes_cons_rows_of_not_mem (d := ![40000, 64]) (W := 10000) v f inb2 p2 _ y rfl rfl (.inl (by omega))]
  by_cases c1 : 10000 ≤ (y 0).val
  · rw [View.read_writes_cons_rows_of_mem (d := ![40000, 64]) v f inb1 p1 _ y (ix2 (n0 := 10000) (n1 := 64) ⟨(y 0).val - 10000, by omega⟩ (y 1)) rfl
      (by show (y 0).val = 10000 + ((y 0).val - 10000); omega) rfl, h1]
    exact (gruOut_at i x0 x1 x2 x3 x4 x5 x6 x7 x8 xo 1 y _ (by show (y 0).val = 10000 * 1 + ((y 0).val - 10000); omega) rfl).symm
  rw [View.read_writes_cons_rows_of_not_mem (d := ![40000, 64]) (W := 10000) v f inb1 p1 _ y rfl rfl (.inl (by omega)),
    View.read_writes_cons_rows_of_mem (d := ![40000, 64]) v f inb0 p0 _ y (ix2 (n0 := 10000) (n1 := 64) ⟨(y 0).val, by omega⟩ (y 1)) rfl
      (by show (y 0).val = 0 + (y 0).val; omega) rfl, h0]
  exact (gruOut_at i x0 x1 x2 x3 x4 x5 x6 x7 x8 xo 0 y _ (by show (y 0).val = 10000 * 0 + (y 0).val; omega) rfl).symm

/-- The input row read for batch element 0. -/
theorem ld_in0 (i : grid1.Coords) (x0 : Vec F S12x4x10000 .f32) (inb) :
    View.ld x0 (Rect.unit (s := S12x4x10000) (k1_off1 i) ![1, 1, 10000] inb) = inRow i 0 x0 := by
  funext j
  have hi : (i 0).val < 12 := (i 0).isLt
  have h0 : (j 0).val < 1 := (j 0).isLt
  have h1 : (j 1).val < 1 := (j 1).isLt
  refine congrArg x0 ?_
  funext a; refine Fin.ext ?_
  match a with
  | ⟨0, _⟩ => show (k1_off1 i) 0 + 1 * (j 0).val = (i 0).val; rw [show (k1_off1 i) 0 = (i 0).val from (BitVec.toNat_ofNat _ _).trans (Nat.mod_eq_of_lt (by omega))]; omega
  | ⟨1, _⟩ => show 0 + 1 * (j 1).val = 0; omega
  | ⟨2, _⟩ => show 0 + 1 * (j 2).val = (j 2).val; omega

/-- The state read for batch element 0. -/
theorem ld_state0 (xo : Vec F S40000x64 .f32) (inb) :
    View.ld xo (Rect.unit (s := S40000x64) ![0, 0] ![10000, 64] inb) = slabOf 0 xo := by
  funext j
  refine congrArg xo ?_
  funext a; refine Fin.ext ?_
  match a with
  | ⟨0, _⟩ => show 0 + 1 * (j 0).val = 10000 * 0 + (j 0).val; omega
  | ⟨1, _⟩ => show 0 + 1 * (j 1).val = (j 1).val; omega

/-- The input row read for batch element 1. -/
theorem ld_in1 (i : grid1.Coords) (x0 : Vec F S12x4x10000 .f32) (inb) :
    View.ld x0 (Rect.unit (s := S12x4x10000) (k1_off2 i) ![1, 1, 10000] inb) = inRow i 1 x0 := by
  funext j
  have hi : (i 0).val < 12 := (i 0).isLt
  have h0 : (j 0).val < 1 := (j 0).isLt
  have h1 : (j 1).val < 1 := (j 1).isLt
  refine congrArg x0 ?_
  funext a; refine Fin.ext ?_
  match a with
  | ⟨0, _⟩ => show (k1_off2 i) 0 + 1 * (j 0).val = (i 0).val; rw [show (k1_off2 i) 0 = (i 0).val from (BitVec.toNat_ofNat _ _).trans (Nat.mod_eq_of_lt (by omega))]; omega
  | ⟨1, _⟩ => show 1 + 1 * (j 1).val = 1; omega
  | ⟨2, _⟩ => show 0 + 1 * (j 2).val = (j 2).val; omega

/-- The state read for batch element 1. -/
theorem ld_state1 (xo : Vec F S40000x64 .f32) (inb) :
    View.ld xo (Rect.unit (s := S40000x64) ![10000, 0] ![10000, 64] inb) = slabOf 1 xo := by
  funext j
  refine congrArg xo ?_
  funext a; refine Fin.ext ?_
  match a with
  | ⟨0, _⟩ => show 10000 + 1 * (j 0).val = 10000 * 1 + (j 0).val; omega
  | ⟨1, _⟩ => show 0 + 1 * (j 1).val = (j 1).val; omega

/-- The input row read for batch element 2. -/
theorem ld_in2 (i : grid1.Coords) (x0 : Vec F S12x4x10000 .f32) (inb) :
    View.ld x0 (Rect.unit (s := S12x4x10000) (k1_off3 i) ![1, 1, 10000] inb) = inRow i 2 x0 := by
  funext j
  have hi : (i 0).val < 12 := (i 0).isLt
  have h0 : (j 0).val < 1 := (j 0).isLt
  have h1 : (j 1).val < 1 := (j 1).isLt
  refine congrArg x0 ?_
  funext a; refine Fin.ext ?_
  match a with
  | ⟨0, _⟩ => show (k1_off3 i) 0 + 1 * (j 0).val = (i 0).val; rw [show (k1_off3 i) 0 = (i 0).val from (BitVec.toNat_ofNat _ _).trans (Nat.mod_eq_of_lt (by omega))]; omega
  | ⟨1, _⟩ => show 2 + 1 * (j 1).val = 2; omega
  | ⟨2, _⟩ => show 0 + 1 * (j 2).val = (j 2).val; omega

/-- The state read for batch element 2. -/
theorem ld_state2 (xo : Vec F S40000x64 .f32) (inb) :
    View.ld xo (Rect.unit (s := S40000x64) ![20000, 0] ![10000, 64] inb) = slabOf 2 xo := by
  funext j
  refine congrArg xo ?_
  funext a; refine Fin.ext ?_
  match a with
  | ⟨0, _⟩ => show 20000 + 1 * (j 0).val = 10000 * 2 + (j 0).val; omega
  | ⟨1, _⟩ => show 0 + 1 * (j 1).val = (j 1).val; omega

/-- The input row read for batch element 3. -/
theorem ld_in3 (i : grid1.Coords) (x0 : Vec F S12x4x10000 .f32) (inb) :
    View.ld x0 (Rect.unit (s := S12x4x10000) (k1_off4 i) ![1, 1, 10000] inb) = inRow i 3 x0 := by
  funext j
  have hi : (i 0).val < 12 := (i 0).isLt
  have h0 : (j 0).val < 1 := (j 0).isLt
  have h1 : (j 1).val < 1 := (j 1).isLt
  refine congrArg x0 ?_
  funext a; refine Fin.ext ?_
  match a with
  | ⟨0, _⟩ => show (k1_off4 i) 0 + 1 * (j 0).val = (i 0).val; rw [show (k1_off4 i) 0 = (i 0).val from (BitVec.toNat_ofNat _ _).trans (Nat.mod_eq_of_lt (by omega))]; omega
  | ⟨1, _⟩ => show 3 + 1 * (j 1).val = 3; omega
  | ⟨2, _⟩ => show 0 + 1 * (j 2).val = (j 2).val; omega

/-- The state read for batch element 3. -/
theorem ld_state3 (xo : Vec F S40000x64 .f32) (inb) :
    View.ld xo (Rect.unit (s := S40000x64) ![30000, 0] ![10000, 64] inb) = slabOf 3 xo := by
  funext j
  refine congrArg xo ?_
  funext a; refine Fin.ext ?_
  match a with
  | ⟨0, _⟩ => show 30000 + 1 * (j 0).val = 10000 * 3 + (j 0).val; omega
  | ⟨1, _⟩ => show 0 + 1 * (j 1).val = (j 1).val; omega

/-- The zeros just stored, read back at batch element 0. -/
theorem readCov_state0 {sp : Space} (v : View sig .tc sp S40000x64 .f32) (inbW inb) (Z : Vec F S40000x64 .f32) :
    v.readCov [⟨Rect.unit (s := S40000x64) ![0, 0] ![40000, 64] inbW, Z⟩]
      (Rect.unit (s := S40000x64) ![0, 0] ![10000, 64] inb).toLoadRect = slabOf 0 Z :=
  (View.readCov_fill v inbW Z [] _ (by decide)).trans (ld_state0 Z inb)

/-- The zeros just stored, read back at batch element 1 below the rows stored since. -/
theorem readCov_state1 {sp : Space} (v : View sig .tc sp S40000x64 .f32) (inbW inb inb0) (Z : Vec F S40000x64 .f32)
    (p0 : S10000x64.Idx → Elt F .f32) :
    v.readCov (⟨Rect.unit (s := S40000x64) ![0, 0] ![10000, 64] inb0, p0⟩ :: [⟨Rect.unit (s := S40000x64) ![0, 0] ![40000, 64] inbW, Z⟩])
      (Rect.unit (s := S40000x64) ![10000, 0] ![10000, 64] inb).toLoadRect = slabOf 1 Z := by
  have h := (View.readCov_fill v inbW Z [] (Rect.unit (s := S40000x64) ![10000, 0] ![10000, 64] inb) (by decide)).trans (ld_state1 Z inb)
  rw [← h]
  funext j
  show v.read (Elt F) _ _ = v.read (Elt F) _ _
  rw [View.read_writes_cons_rows_of_not_mem (d := ![40000, 64]) (W := 10000) v _ inb0 p0 _ _ rfl rfl (.inr (by show 0 + 10000 ≤ 10000 + 1 * (j 0).val; omega))]

/-- The zeros just stored, read back at batch element 2 below the rows stored since. -/
theorem readCov_state2 {sp : Space} (v : View sig .tc sp S40000x64 .f32) (inbW inb inb0 inb1) (Z : Vec F S40000x64 .f32)
    (p0 p1 : S10000x64.Idx → Elt F .f32) :
    v.readCov (⟨Rect.unit (s := S40000x64) ![10000, 0] ![10000, 64] inb1, p1⟩ :: ⟨Rect.unit (s := S40000x64) ![0, 0] ![10000, 64] inb0, p0⟩ :: [⟨Rect.unit (s := S40000x64) ![0, 0] ![40000, 64] inbW, Z⟩])
      (Rect.unit (s := S40000x64) ![20000, 0] ![10000, 64] inb).toLoadRect = slabOf 2 Z := by
  have h := (View.readCov_fill v inbW Z [] (Rect.unit (s := S40000x64) ![20000, 0] ![10000, 64] inb) (by decide)).trans (ld_state2 Z inb)
  rw [← h]
  funext j
  show v.read (Elt F) _ _ = v.read (Elt F) _ _
  rw [View.read_writes_cons_rows_of_not_mem (d := ![40000, 64]) (W := 10000) v _ inb1 p1 _ _ rfl rfl (.inr (by show 10000 + 10000 ≤ 20000 + 1 * (j 0).val; omega))]
  rw [View.read_writes_cons_rows_of_not_mem (d := ![40000, 64]) (W := 10000) v _ inb0 p0 _ _ rfl rfl (.inr (by show 0 + 10000 ≤ 20000 + 1 * (j 0).val; omega))]

/-- The zeros just stored, read back at batch element 3 below the rows stored since. -/
theorem readCov_state3 {sp : Space} (v : View sig .tc sp S40000x64 .f32) (inbW inb inb0 inb1 inb2) (Z : Vec F S40000x64 .f32)
    (p0 p1 p2 : S10000x64.Idx → Elt F .f32) :
    v.readCov (⟨Rect.unit (s := S40000x64) ![20000, 0] ![10000, 64] inb2, p2⟩ :: ⟨Rect.unit (s := S40000x64) ![10000, 0] ![10000, 64] inb1, p1⟩ :: ⟨Rect.unit (s := S40000x64) ![0, 0] ![10000, 64] inb0, p0⟩ :: [⟨Rect.unit (s := S40000x64) ![0, 0] ![40000, 64] inbW, Z⟩])
      (Rect.unit (s := S40000x64) ![30000, 0] ![10000, 64] inb).toLoadRect = slabOf 3 Z := by
  have h := (View.readCov_fill v inbW Z [] (Rect.unit (s := S40000x64) ![30000, 0] ![10000, 64] inb) (by decide)).trans (ld_state3 Z inb)
  rw [← h]
  funext j
  show v.read (Elt F) _ _ = v.read (Elt F) _ _
  rw [View.read_writes_cons_rows_of_not_mem (d := ![40000, 64]) (W := 10000) v _ inb2 p2 _ _ rfl rfl (.inr (by show 20000 + 10000 ≤ 30000 + 1 * (j 0).val; omega))]
  rw [View.read_writes_cons_rows_of_not_mem (d := ![40000, 64]) (W := 10000) v _ inb1 p1 _ _ rfl rfl (.inr (by show 10000 + 10000 ≤ 30000 + 1 * (j 0).val; omega))]
  rw [View.read_writes_cons_rows_of_not_mem (d := ![40000, 64]) (W := 10000) v _ inb0 p0 _ _ rfl rfl (.inr (by show 0 + 10000 ≤ 30000 + 1 * (j 0).val; omega))]

/-- A load of a whole two-axis buffer reads its contents. -/
theorem readAt_origin2 {sp : Space} {n m : ℕ} {e : EltTy} {M : Memref sig .tc sp ⟨2, ![n, m]⟩ e} (h : M.IsWhole)
    (inb : ∀ a, (![0, 0] : Fin 2 → ℕ) a + (![n, m] : Fin 2 → ℕ) a ≤ (![n, m] : Fin 2 → ℕ) a) (X : (⟨2, ![n, m]⟩ : Shape).Idx → Elt F e) :
    View.readAt (Elt F) M.view (Rect.unit (s := ⟨2, ![n, m]⟩) ![0, 0] ![n, m] inb).toLoadRect (h.unread X) = X :=
  readAt_origin h inb X (by intro a; match a with | ⟨0, _⟩ => rfl | ⟨1, _⟩ => rfl)

/-- A load of the gates' buffer after a store of the whole of it reads the payload. -/
theorem readCov_gates {sp : Space} (v : View sig .tc sp S10000x128 .bf16) (inb) (Z : Vec F S10000x128 .bf16)
    (L : List (Piece (Elt F) S10000x128 .bf16)) (r : Rect S10000x128) :
    v.readCov (⟨Rect.unit (s := S10000x128) ![0, 0] ![10000, 128] inb, Z⟩ :: L) r.toLoadRect = View.ld Z r :=
  View.readCov_fill v inb Z L r (by decide)

end Cert.KernelIdeal.Own

end
-- ==== Proof.ExtVal.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.GruVal
public import Idealize.ShloMosaic.Lib.WritesUnit
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.Pipeline.ValueKit.Basic
public import Idealize.ShloMosaic.Lib.Pipeline.ReadBack
public import Idealize.ShloMosaic.Lib.Pointwise

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.View
open Idealize.ShloMosaic.Pipeline (Dat Cfg Window BodyObligation cellOf)

variable {F : FTy → Type} [FloatOps F]

local notation "𝕄" => MT nD τ sig Unit (Elt F) ℕ (UR sig nD τ) ℕ

/-- Three arrays side by side: sixty-four columns, one column, sixty-three columns. -/
def cat3 {α : Type} (p : S10000x64.Idx → α) (r : S10000x1.Idx → α) (s : S10000x63.Idx → α) : S10000x128.Idx → α := fun y =>
  if h : (y 1).val < 64 then p (ix2 (n0 := 10000) (n1 := 64) (y 0) ⟨(y 1).val, h⟩)
  else if (y 1).val < 65 then r (ix2 (n0 := 10000) (n1 := 1) (y 0) ⟨0, by omega⟩)
  else s (ix2 (n0 := 10000) (n1 := 63) (y 0) ⟨(y 1).val - 65, by have : (y 1).val < 128 := (y 1).isLt; omega⟩)

/-- The four hundred rows of point `i`. -/
def rowsAt {α : Type} (i : grid0.Coords) (x : S10000x64.Idx → α) : S400x64.Idx → α := fun j =>
  x (ix2 (n0 := 10000) (n1 := 64) ⟨400 * (i 0).val + (j 0).val, by have : (i 0).val < 25 := (i 0).isLt; have : (j 0).val < 400 := (j 0).isLt; omega⟩ (j 1))

/-- An array with the four hundred rows of point `i` replaced. -/
def putRows {α : Type} (i : grid0.Coords) (p : S400x64.Idx → α) (x : S10000x64.Idx → α) : S10000x64.Idx → α := fun y =>
  if h : 400 * (i 0).val ≤ (y 0).val ∧ (y 0).val < 400 * (i 0).val + 400 then p (ix2 (n0 := 400) (n1 := 64) ⟨(y 0).val - 400 * (i 0).val, by omega⟩ (y 1)) else x y

/-- Row `k` of the running sums. -/
def rowOf {α : Type} (k : Fin 8) (st : S8x64.Idx → α) : S1x64.Idx → α := fun j => st (ix2 (n0 := 8) (n1 := 64) k (j 1))

/-- The running sums with rows 0 and 1 replaced. -/
def setRows {α : Type} (p0 p1 : S1x64.Idx → α) (st : S8x64.Idx → α) : S8x64.Idx → α := fun y =>
  if (y 0).val = 1 then p1 (ix2 (n0 := 1) (n1 := 64) ⟨0, by omega⟩ (y 1)) else if (y 0).val = 0 then p0 (ix2 (n0 := 1) (n1 := 64) ⟨0, by omega⟩ (y 1)) else st y

/-- The features with the columns of ones and zeros after them. -/
def extXs (x1 : Vec F S10000x128 .f32) (x2 : Vec F S128x64 .f32) (x3 : Vec F S1x64 .f32) : Vec F S10000x128 .bf16 :=
  cat3 (k0_pay6 x1 x2 x3) k0_pay7 k0_pay8

/-- The one number of a one-element array. -/
def only {e : EltTy} (x : Vec F S1 e) : Elt F e := x (ix1 (n0 := 1) ⟨0, by omega⟩)

/-- The aggregated rows after point `i`. -/
def extX2 (i : grid0.Coords) (x0 : Vec F S400x10000 .f32) (xs : Vec F S10000x128 .bf16) (x : Vec F S10000x64 .f32) (x4 : Vec F S1 .f32) (x2 : Vec F S10000x64 .f32) : Vec F S10000x64 .f32 :=
  putRows i (k0_pay11 x0 xs (rowsAt i x) (only x4)) x2

/-- The running sums after point `i`. -/
def extSt (i : grid0.Coords) (x0 : Vec F S400x10000 .f32) (xs : Vec F S10000x128 .bf16) (x : Vec F S10000x64 .f32) (x4 : Vec F S1 .f32) (st : Vec F S8x64 .f32) : Vec F S8x64 .f32 :=
  setRows (k0_pay12 x0 xs (rowsAt i x) (only x4) (rowOf 0 st)) (k0_pay1 (k0_pay10 x0 xs (rowsAt i x) (only x4)) (rowOf 1 st)) st

/-- The result off the sums and the aggregated rows. -/
def extOut (st : Vec F S8x64 .f32) (x2 : Vec F S10000x64 .f32) (x5 x6 : Vec F S1x64 .f32) (x7 : Vec F S64x64 .f32) (x8 : Vec F S1x64 .f32) (x9 : Vec F S64x64 .f32) (x10 : Vec F S1 .f32) (x11 : Vec F S64x64 .f32) (x12 : Vec F S1x64 .f32) : Vec F S10000x64 .f32 :=
  k0_pay2 (k0_pay3 (rowOf 0 st) (rowOf 1 st) x2 x5 x6 x7 x8 x9 (only x10)) x11 x12

/-- A load of a whole buffer at the origin after a list of writes reads them all. -/
theorem readCov_origin2 {sp : Space} {n m : ℕ} {e : EltTy} (v : View sig .tc sp ⟨2, ![n, m]⟩ e)
    (inb : ∀ a, (![0, 0] : Fin 2 → ℕ) a + (![n, m] : Fin 2 → ℕ) a ≤ (![n, m] : Fin 2 → ℕ) a) (L : List (Piece (Elt F) ⟨2, ![n, m]⟩ e)) :
    v.readCov L (Rect.unit (s := ⟨2, ![n, m]⟩) ![0, 0] ![n, m] inb).toLoadRect = v.read (Elt F) (v.writes (Elt F) v.junk L) := by
  funext y
  show v.read (Elt F) _ _ = v.read (Elt F) _ _
  exact congrArg _ (congrFun (View.ld_unit_lit (Val := fun _ => Shape.Idx ⟨2, ![n, m]⟩) (e := .f32) inb id (by intro a; match a with | ⟨0, _⟩ => rfl | ⟨1, _⟩ => rfl)) y)

/-- A load of a whole buffer at the origin. -/
theorem readAt_whole2 {sp : Space} {n m : ℕ} {e : EltTy} (v : View sig .tc sp ⟨2, ![n, m]⟩ e)
    (inb : ∀ a, (![0, 0] : Fin 2 → ℕ) a + (![n, m] : Fin 2 → ℕ) a ≤ (![n, m] : Fin 2 → ℕ) a) (f : v.ty.Contents (Elt F)) :
    View.readAt (Elt F) v (Rect.unit (s := ⟨2, ![n, m]⟩) ![0, 0] ![n, m] inb).toLoadRect f = v.read (Elt F) f := by
  funext y
  rw [View.readAt_apply]
  exact congrArg _ (congrFun (View.ld_unit_lit (Val := fun _ => Shape.Idx ⟨2, ![n, m]⟩) (e := .f32) inb id (by intro a; match a with | ⟨0, _⟩ => rfl | ⟨1, _⟩ => rfl)) y)

/-- A store of a whole buffer at the origin. -/
theorem read_whole2 {sp : Space} {n m : ℕ} {e : EltTy} (v : View sig .tc sp ⟨2, ![n, m]⟩ e) (f : v.ty.Contents (Elt F))
    (inb : ∀ a, (![0, 0] : Fin 2 → ℕ) a + (![n, m] : Fin 2 → ℕ) a ≤ (![n, m] : Fin 2 → ℕ) a) (w : (⟨2, ![n, m]⟩ : Shape).Idx → Elt F e) (L : List (Piece (Elt F) ⟨2, ![n, m]⟩ e)) :
    v.read (Elt F) (v.writes (Elt F) f (⟨Rect.unit (s := ⟨2, ![n, m]⟩) ![0, 0] ![n, m] inb, w⟩ :: L)) = w := by
  funext y
  refine read_cons_at v f (Rect.unit (s := ⟨2, ![n, m]⟩) ![0, 0] ![n, m] inb) w L y y ?_
  funext a
  refine Fin.ext ?_
  match a with
  | ⟨0, _⟩ => show (y 0).val = 0 + 1 * (y 0).val; omega
  | ⟨1, _⟩ => show (y 1).val = 0 + 1 * (y 1).val; omega

/-- The features' buffer after its three stores. -/
theorem read_cat3 {sp : Space} {e : EltTy} (v : View sig .tc sp S10000x128 e) (f : v.ty.Contents (Elt F)) (inb0 inb1 inb2)
    (p : S10000x64.Idx → Elt F e) (r : S10000x1.Idx → Elt F e) (s : S10000x63.Idx → Elt F e) :
    v.read (Elt F) (v.writes (Elt F) f [⟨Rect.unit (s := S10000x128) ![0, 65] ![10000, 63] inb2, s⟩,
      ⟨Rect.unit (s := S10000x128) ![0, 64] ![10000, 1] inb1, r⟩, ⟨Rect.unit (s := S10000x128) ![0, 0] ![10000, 64] inb0, p⟩]) = cat3 p r s := by
  funext y
  have h1 : (y 1).val < 128 := (y 1).isLt
  unfold cat3
  split
  · rename_i h
    refine (read_cons_off v f (Rect.unit (s := S10000x128) ![0, 65] ![10000, 63] inb2) s _ y fun x hx => ?_).trans ?_
    · have := congrArg (fun z : S10000x128.Idx => (z 1).val) hx
      change 65 + 1 * (x 1).val = (y 1).val at this
      omega
    refine (read_cons_off v f (Rect.unit (s := S10000x128) ![0, 64] ![10000, 1] inb1) r _ y fun x hx => ?_).trans ?_
    · have := congrArg (fun z : S10000x128.Idx => (z 1).val) hx
      change 64 + 1 * (x 1).val = (y 1).val at this
      omega
    refine read_cons_at v f (Rect.unit (s := S10000x128) ![0, 0] ![10000, 64] inb0) p _ (ix2 (n0 := 10000) (n1 := 64) (y 0) ⟨(y 1).val, h⟩) y ?_
    funext a
    refine Fin.ext ?_
    match a with
    | ⟨0, _⟩ => show (y 0).val = 0 + 1 * (y 0).val; omega
    | ⟨1, _⟩ => show (y 1).val = 0 + 1 * (y 1).val; omega
  · rename_i h
    split
    · rename_i h'
      refine (read_cons_off v f (Rect.unit (s := S10000x128) ![0, 65] ![10000, 63] inb2) s _ y fun x hx => ?_).trans ?_
      · have := congrArg (fun z : S10000x128.Idx => (z 1).val) hx
        change 65 + 1 * (x 1).val = (y 1).val at this
        omega
      refine read_cons_at v f (Rect.unit (s := S10000x128) ![0, 64] ![10000, 1] inb1) r _ (ix2 (n0 := 10000) (n1 := 1) (y 0) ⟨0, by omega⟩) y ?_
      funext a
      refine Fin.ext ?_
      match a with
      | ⟨0, _⟩ => show (y 0).val = 0 + 1 * (y 0).val; omega
      | ⟨1, _⟩ => show (y 1).val = 64 + 1 * 0; omega
    · rename_i h'
      refine read_cons_at v f (Rect.unit (s := S10000x128) ![0, 65] ![10000, 63] inb2) s _ (ix2 (n0 := 10000) (n1 := 63) (y 0) ⟨(y 1).val - 65, by omega⟩) y ?_
      funext a
      refine Fin.ext ?_
      match a with
      | ⟨0, _⟩ => show (y 0).val = 0 + 1 * (y 0).val; omega
      | ⟨1, _⟩ => show (y 1).val = 65 + 1 * ((y 1).val - 65); omega

theorem off1_eq (i : grid0.Coords) : (k0_off1 i) 0 = 400 * (i 0).val := by
  have hi : (i 0).val < 25 := (i 0).isLt
  have e : ∀ k : Fin 25, (Scalar.muli (BitVec.ofNat 32 k.val) 400#32).toNat = 400 * k.val := by decide
  exact e ⟨(i 0).val, hi⟩

/-- The rows read at point `i`. -/
theorem ld_rowsAt {e : EltTy} (i : grid0.Coords) (x : Vec F S10000x64 e) (inb) :
    View.ld x (Rect.unit (s := S10000x64) (k0_off1 i) ![400, 64] inb) = rowsAt i x := by
  funext j
  refine congrArg x ?_
  funext a; refine Fin.ext ?_
  match a with
  | ⟨0, _⟩ => show (k0_off1 i) 0 + 1 * (j 0).val = 400 * (i 0).val + (j 0).val; rw [off1_eq]; omega
  | ⟨1, _⟩ => show 0 + 1 * (j 1).val = (j 1).val; omega

/-- The rows read at point `i` just after the whole was stored. -/
theorem readCov_rowsAt {sp : Space} {e : EltTy} (v : View sig .tc sp S10000x64 e) (i : grid0.Coords) (inb inb') (Z : Vec F S10000x64 e) (L : List (Piece (Elt F) S10000x64 e)) :
    v.readCov (⟨Rect.unit (s := S10000x64) ![0, 0] ![10000, 64] inb, Z⟩ :: L) (Rect.unit (s := S10000x64) (k0_off1 i) ![400, 64] inb').toLoadRect = rowsAt i Z :=
  (View.readCov_fill v inb Z L _ (by decide)).trans (ld_rowsAt i Z inb')

/-- The aggregated rows' buffer after the store of point `i`. -/
theorem read_putRows {sp : Space} {e : EltTy} (v : View sig .tc sp S10000x64 e) (f : v.ty.Contents (Elt F)) (i : grid0.Coords) (inb)
    (p : S400x64.Idx → Elt F e) (x : S10000x64.Idx → Elt F e) (hx : v.read (Elt F) f = x) :
    v.read (Elt F) (v.writes (Elt F) f [⟨Rect.unit (s := S10000x64) (k0_off1 i) ![400, 64] inb, p⟩]) = putRows i p x := by
  funext y
  have hi : (i 0).val < 25 := (i 0).isLt
  have h1 : (y 0).val < 10000 := (y 0).isLt
  unfold putRows
  split
  · rename_i h
    refine read_cons_at v f (Rect.unit (s := S10000x64) (k0_off1 i) ![400, 64] inb) p _ (ix2 (n0 := 400) (n1 := 64) ⟨(y 0).val - 400 * (i 0).val, by omega⟩ (y 1)) y ?_
    funext a
    refine Fin.ext ?_
    match a with
    | ⟨0, _⟩ => show (y 0).val = (k0_off1 i) 0 + 1 * ((y 0).val - 400 * (i 0).val); rw [off1_eq]; omega
    | ⟨1, _⟩ => show (y 1).val = 0 + 1 * (y 1).val; omega
  · rename_i h
    refine (read_cons_off v f (Rect.unit (s := S10000x64) (k0_off1 i) ![400, 64] inb) p _ y fun z hz => ?_).trans (congrFun hx y)
    have := congrArg (fun z : S10000x64.Idx => (z 0).val) hz
    change (k0_off1 i) 0 + 1 * (z 0).val = (y 0).val at this
    rw [off1_eq] at this
    have : (z 0).val < 400 := (z 0).isLt
    omega

/-- Rows 0 and 1 of the sums read off a whole array. -/
theorem ld_row0 {e : EltTy} (st : Vec F S8x64 e) (inb) : View.ld st (Rect.unit (s := S8x64) ![0, 0] ![1, 64] inb) = rowOf 0 st := by
  funext j
  have h0 : (j 0).val < 1 := (j 0).isLt
  refine congrArg st ?_
  funext a; refine Fin.ext ?_
  match a with
  | ⟨0, _⟩ => show 0 + 1 * (j 0).val = 0; omega
  | ⟨1, _⟩ => show 0 + 1 * (j 1).val = (j 1).val; omega
theorem ld_row1 {e : EltTy} (st : Vec F S8x64 e) (inb) : View.ld st (Rect.unit (s := S8x64) ![1, 0] ![1, 64] inb) = rowOf 1 st := by
  funext j
  have h0 : (j 0).val < 1 := (j 0).isLt
  refine congrArg st ?_
  funext a; refine Fin.ext ?_
  match a with
  | ⟨0, _⟩ => show 1 + 1 * (j 0).val = 1; omega
  | ⟨1, _⟩ => show 0 + 1 * (j 1).val = (j 1).val; omega

/-- The sums' buffer after rows 0 and 1 were stored. -/
theorem read_setRows {sp : Space} {e : EltTy} (v : View sig .tc sp S8x64 e) (f : v.ty.Contents (Elt F)) (inb0 inb1)
    (p0 p1 : S1x64.Idx → Elt F e) (L : List (Piece (Elt F) S8x64 e)) (st : S8x64.Idx → Elt F e) (hst : v.read (Elt F) (v.writes (Elt F) f L) = st) :
    v.read (Elt F) (v.writes (Elt F) f (⟨Rect.unit (s := S8x64) ![1, 0] ![1, 64] inb1, p1⟩ :: ⟨Rect.unit (s := S8x64) ![0, 0] ![1, 64] inb0, p0⟩ :: L)) = setRows p0 p1 st := by
  funext y
  have h1 : (y 0).val < 8 := (y 0).isLt
  unfold setRows
  split
  · rename_i h
    refine read_cons_at v f (Rect.unit (s := S8x64) ![1, 0] ![1, 64] inb1) p1 _ (ix2 (n0 := 1) (n1 := 64) ⟨0, by omega⟩ (y 1)) y ?_
    funext a
    refine Fin.ext ?_
    match a with
    | ⟨0, _⟩ => show (y 0).val = 1 + 1 * 0; omega
    | ⟨1, _⟩ => show (y 1).val = 0 + 1 * (y 1).val; omega
  · rename_i h
    refine (read_cons_off v f (Rect.unit (s := S8x64) ![1, 0] ![1, 64] inb1) p1 _ y fun z hz => ?_).trans ?_
    · have := congrArg (fun z : S8x64.Idx => (z 0).val) hz
      change 1 + 1 * (z 0).val = (y 0).val at this
      have : (z 0).val < 1 := (z 0).isLt
      omega
    split
    · rename_i h'
      refine read_cons_at v f (Rect.unit (s := S8x64) ![0, 0] ![1, 64] inb0) p0 _ (ix2 (n0 := 1) (n1 := 64) ⟨0, by omega⟩ (y 1)) y ?_
      funext a
      refine Fin.ext ?_
      match a with
      | ⟨0, _⟩ => show (y 0).val = 0 + 1 * 0; omega
      | ⟨1, _⟩ => show (y 1).val = 0 + 1 * (y 1).val; omega
    · rename_i h'
      refine (read_cons_off v f (Rect.unit (s := S8x64) ![0, 0] ![1, 64] inb0) p0 _ y fun z hz => ?_).trans (congrFun hst y)
      have := congrArg (fun z : S8x64.Idx => (z 0).val) hz
      change 0 + 1 * (z 0).val = (y 0).val at this
      have : (z 0).val < 1 := (z 0).isLt
      omega

/-- Row 1 of the sums, read after row 0 was stored. -/
theorem read_row1_off {sp : Space} {e : EltTy} (v : View sig .tc sp S8x64 e) (f : v.ty.Contents (Elt F)) (inb0 inb1)
    (p0 : S1x64.Idx → Elt F e) (L : List (Piece (Elt F) S8x64 e)) (st : S8x64.Idx → Elt F e) (hst : v.read (Elt F) (v.writes (Elt F) f L) = st) :
    View.readAt (Elt F) v (Rect.unit (s := S8x64) ![1, 0] ![1, 64] inb1).toLoadRect (v.writes (Elt F) f (⟨Rect.unit (s := S8x64) ![0, 0] ![1, 64] inb0, p0⟩ :: L)) = rowOf 1 st := by
  rw [← ld_row1 st inb1]
  funext j
  rw [View.readAt_apply]
  refine (read_cons_off v f (Rect.unit (s := S8x64) ![0, 0] ![1, 64] inb0) p0 _ _ fun z hz => ?_).trans (congrFun hst _)
  have := congrArg (fun z : S8x64.Idx => (z 0).val) hz
  change 0 + 1 * (z 0).val = 1 + 1 * (j 0).val at this
  have : (z 0).val < 1 := (z 0).isLt
  omega

/-- The rows of the sums read back after both were stored. -/
theorem rowOf0_setRows {α : Type} (p0 p1 : S1x64.Idx → α) (st : S8x64.Idx → α) : rowOf 0 (setRows p0 p1 st) = p0 := by
  funext j
  have h0 : (j 0).val < 1 := (j 0).isLt
  exact congrArg p0 (funext fun a => Fin.ext (by match a with | ⟨0, _⟩ => show 0 = (j 0).val; omega | ⟨1, _⟩ => rfl))
theorem rowOf1_setRows {α : Type} (p0 p1 : S1x64.Idx → α) (st : S8x64.Idx → α) : rowOf 1 (setRows p0 p1 st) = p1 := by
  funext j
  have h0 : (j 0).val < 1 := (j 0).isLt
  exact congrArg p1 (funext fun a => Fin.ext (by match a with | ⟨0, _⟩ => show 0 = (j 0).val; omega | ⟨1, _⟩ => rfl))

/-- The one number of a one-element array, read. -/
theorem ld_only {e : EltTy} (x : Vec F S1 e) (inb j) : View.ld x (Rect.unit (s := S1) ![0] ![1] inb) j = only x := by
  have h0 : (j 0).val < 1 := (j 0).isLt
  refine congrArg x ?_
  funext a; refine Fin.ext ?_
  match a with
  | ⟨0, _⟩ => show 0 + 1 * (j 0).val = 0; omega

/-- Rows 0 and 1 of the sums, read back after both were stored. -/
theorem readCov_row1 {sp : Space} {e : EltTy} (v : View sig .tc sp S8x64 e) (inb1 inb) (p1 : S1x64.Idx → Elt F e) (L : List (Piece (Elt F) S8x64 e)) :
    v.readCov (⟨Rect.unit (s := S8x64) ![1, 0] ![1, 64] inb1, p1⟩ :: L) (Rect.unit (s := S8x64) ![1, 0] ![1, 64] inb).toLoadRect = p1 := by
  funext j
  exact read_cons_at v _ (Rect.unit (s := S8x64) ![1, 0] ![1, 64] inb1) p1 L j _ rfl
theorem readCov_row0 {sp : Space} {e : EltTy} (v : View sig .tc sp S8x64 e) (inb0 inb1 inb) (p0 p1 : S1x64.Idx → Elt F e) (L : List (Piece (Elt F) S8x64 e)) :
    v.readCov (⟨Rect.unit (s := S8x64) ![1, 0] ![1, 64] inb1, p1⟩ :: ⟨Rect.unit (s := S8x64) ![0, 0] ![1, 64] inb0, p0⟩ :: L) (Rect.unit (s := S8x64) ![0, 0] ![1, 64] inb).toLoadRect = p0 := by
  funext j
  refine (read_cons_off v _ (Rect.unit (s := S8x64) ![1, 0] ![1, 64] inb1) p1 _ _ fun z hz => ?_).trans
    (read_cons_at v _ (Rect.unit (s := S8x64) ![0, 0] ![1, 64] inb0) p0 L j _ rfl)
  have h1 := congrArg (fun z : S8x64.Idx => (z 0).val) hz
  change 1 + 1 * (z 0).val = 0 + 1 * (j 0).val at h1
  have h2 : (j 0).val < 1 := (j 0).isLt
  omega

/-- Rows 0 and 1 of the sums, read at the first point after the whole was cleared. -/
theorem readCov_first0 {sp : Space} {e : EltTy} (v : View sig .tc sp S8x64 e) (inb inb') (Z : Vec F S8x64 e) :
    v.readCov [⟨Rect.unit (s := S8x64) ![0, 0] ![8, 64] inb, Z⟩] (Rect.unit (s := S8x64) ![0, 0] ![1, 64] inb').toLoadRect = rowOf 0 Z :=
  (View.readCov_fill v inb Z [] _ (by decide)).trans (ld_row0 Z inb')
theorem readCov_first1 {sp : Space} {e : EltTy} (v : View sig .tc sp S8x64 e) (inb inb' inb0) (p0 : S1x64.Idx → Elt F e) (Z : Vec F S8x64 e) :
    v.readCov (⟨Rect.unit (s := S8x64) ![0, 0] ![1, 64] inb0, p0⟩ :: [⟨Rect.unit (s := S8x64) ![0, 0] ![8, 64] inb, Z⟩]) (Rect.unit (s := S8x64) ![1, 0] ![1, 64] inb').toLoadRect = rowOf 1 Z := by
  rw [← (View.readCov_fill v inb Z [] (Rect.unit (s := S8x64) ![1, 0] ![1, 64] inb') (by decide)).trans (ld_row1 Z inb')]
  funext j
  refine (read_cons_off v _ (Rect.unit (s := S8x64) ![0, 0] ![1, 64] inb0) p0 _ _ fun z hz => ?_)
  have h1 := congrArg (fun z : S8x64.Idx => (z 0).val) hz
  change 0 + 1 * (z 0).val = 1 + 1 * (j 0).val at h1
  have : (z 0).val < 1 := (z 0).isLt
  omega

/-- The whole of the aggregated rows, read after the rows of point `i` were stored. -/
theorem readCov_putRows {sp : Space} {e : EltTy} {M : Memref sig .tc sp S10000x64 e} (h : M.IsWhole) (i : grid0.Coords) (inb inb')
    (p : S400x64.Idx → Elt F e) (x : S10000x64.Idx → Elt F e) :
    View.readAt (Elt F) M.view (Rect.unit (s := S10000x64) ![0, 0] ![10000, 64] inb').toLoadRect
      (M.view.writes (Elt F) (h.unread x) [⟨Rect.unit (s := S10000x64) (k0_off1 i) ![400, 64] inb, p⟩]) = putRows i p x :=
  (readAt_whole2 _ inb' _).trans (read_putRows _ _ i _ _ _ (h.read_unread _))

/-- The rows read at point `i` after the whole was stored, in the other form. -/
theorem readAt_rowsAt {sp : Space} {e : EltTy} (v : View sig .tc sp S10000x64 e) (f : v.ty.Contents (Elt F)) (i : grid0.Coords) (inb inb') (Z : Vec F S10000x64 e) (L : List (Piece (Elt F) S10000x64 e)) :
    View.readAt (Elt F) v (Rect.unit (s := S10000x64) (k0_off1 i) ![400, 64] inb').toLoadRect (v.writes (Elt F) f (⟨Rect.unit (s := S10000x64) ![0, 0] ![10000, 64] inb, Z⟩ :: L)) = rowsAt i Z := by
  rw [← ld_rowsAt i Z inb']
  funext j
  rw [View.readAt_apply]
  exact congrFun (read_whole2 v f inb Z L) _

end Cert.KernelIdeal.Own

end
-- ==== Proof.ExtBody.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.ExtVal
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.Pipeline.ValueKit.Basic
public import Idealize.ShloMosaic.Lib.Pipeline.ReadBack
public import Idealize.ShloMosaic.Lib.Pointwise

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.View
open Idealize.ShloMosaic.Pipeline (Dat Cfg Window BodyObligation cellOf)

variable {F : FTy → Type} [FloatOps F]

local notation "𝕄" => MT nD τ sig Unit (Elt F) ℕ (UR sig nD τ) ℕ

/-- The condition under which the body stores the features: the first point. -/
abbrev cond0_0 (i : grid0.Coords) : Prop := (Scalar.cmpi .ne (Scalar.extui (Scalar.cmpi .eq (BitVec.ofNat 32 (i 0).val) 0#32)) 0#32) = 1#1
/-- The condition under which the body stores the result: the last point. -/
abbrev cond0_1 (i : grid0.Coords) : Prop := k0_cond2 i = 1#1

set_option maxHeartbeats 1000000 in
/-- At the first point the body stores the features, clears the sums and takes the first rows in. -/
theorem ext_first (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .smem S1 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .smem S1 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S10000x64 .f32) (harg14 : arg14.IsWhole) (arg15 : Memref sig .tc .vmem S10000x64 .f32) (harg15 : arg15.IsWhole) (arg16 : Memref sig .tc .vmem S10000x128 .bf16) (harg16 : arg16.IsWhole) (arg17 : Memref sig .tc .vmem S10000x64 .f32) (harg17 : arg17.IsWhole) (arg18 : Memref sig .tc .vmem S8x64 .f32) (harg18 : arg18.IsWhole) (hc0 : cond0_0 i) (hc1 : ¬cond0_1 i)
    (x0 : Vec F S400x10000 .f32) (x1 : Vec F S10000x128 .f32) (x2 : Vec F S128x64 .f32) (x3 : Vec F S1x64 .f32) (x4 : Vec F S1 .f32) (x5 : Vec F S1x64 .f32) (x6 : Vec F S1x64 .f32) (x7 : Vec F S64x64 .f32) (x8 : Vec F S1x64 .f32) (x9 : Vec F S64x64 .f32) (x10 : Vec F S1 .f32) (x11 : Vec F S64x64 .f32) (x12 : Vec F S1x64 .f32) (xo x2s : Vec F S10000x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare xo ∗ (∃ d, owns (c : Thread nD τ) arg15 fullShare d) ∗ (∃ d, owns (c : Thread nD τ) arg16 fullShare d) ∗ owns (c : Thread nD τ) arg17 fullShare x2s ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare xo ∗ owns (c : Thread nD τ) arg15 fullShare (k0_pay5 x1 x2 x3) ∗ owns (c : Thread nD τ) arg16 fullShare (extXs x1 x2 x3) ∗ owns (c : Thread nD τ) arg17 fullShare (extX2 i x0 (extXs x1 x2 x3) (k0_pay5 x1 x2 x3) x4 x2s) ∗ owns (c : Thread nD τ) arg18 fullShare (extSt i x0 (extXs x1 x2 x3) (k0_pay5 x1 x2 x3) x4 k0_pay9)) -∗ K ⟨⟩))
      ⊢ wp frame (wpE (defs₀ (F := F)) Variants.none c none) E (cc0__extract_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__extract_kernel_eq_skeleton]; unfold cc0__extract_kernel_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fH13, %hfH13, H13⟩, ⟨%dHS0, %fHS0, -, HS0⟩, ⟨%dHS1, %fHS1, -, HS1⟩, ⟨%fHS2, %hfHS2, HS2⟩, ⟨%dHS3, %fHS3, -, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hfH13; obtain rfl := harg17.eq_unread hfHS2
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; swap; · iexact H13
    ipureintro
    exact harg14.read_unread _
  isplitl [HS0]
  · iexists _; isplitr; swap; · iexact HS0
    ipureintro
    repeat delta ext_first.sl.v0 ext_first.sl.v1 ext_first.sl.v2 ext_first.sl.r ext_first.sl.r_1 ext_first.sl.v5 ext_first.sl.v15 ext_first.sl.v27 ext_first.sl.v34 ext_first.sl.HS0_1 ext_first.sl.HS1_3 ext_first.sl.HS3_1 ext_first.sl.HS3_2
    simp only [readAt_origin2, readCov_origin2, read_cat3, read_whole2]
  isplitl [HS1]
  · iexists _; isplitr; swap; · iexact HS1
    ipureintro
    repeat delta ext_first.sl.v0 ext_first.sl.v1 ext_first.sl.v2 ext_first.sl.r ext_first.sl.r_1 ext_first.sl.v5 ext_first.sl.v15 ext_first.sl.v27 ext_first.sl.v34 ext_first.sl.HS0_1 ext_first.sl.HS1_3 ext_first.sl.HS3_1 ext_first.sl.HS3_2
    simp only [readAt_origin2, readCov_origin2, read_cat3, read_whole2]
    rfl
  isplitl [HS2]
  · iexists _; isplitr; swap; · iexact HS2
    ipureintro
    repeat delta ext_first.sl.v0 ext_first.sl.v1 ext_first.sl.v2 ext_first.sl.r ext_first.sl.r_1 ext_first.sl.v5 ext_first.sl.v15 ext_first.sl.v27 ext_first.sl.v34 ext_first.sl.HS0_1 ext_first.sl.HS1_3 ext_first.sl.HS3_1 ext_first.sl.HS3_2
    simp only [readAt_origin2, readCov_origin2, read_cat3, read_whole2]
    simp only [readAt_box, ld_only, ld_rowsAt, ld_row0, ld_row1, readCov_rowsAt, readAt_rowsAt, readCov_row0, readCov_row1, readCov_first0, readCov_first1, readCov_putRows harg17]
    unfold extX2 extXs
    rw [← ld_only x4 inb_S1_S1_0 (Shape.Idx.first (by decide))]
    exact read_putRows (F := F) _ _ i _ _ _ (harg17.read_unread _)
  · iexists _; isplitr; swap; · iexact HS3
    ipureintro
    repeat delta ext_first.sl.v0 ext_first.sl.v1 ext_first.sl.v2 ext_first.sl.r ext_first.sl.r_1 ext_first.sl.v5 ext_first.sl.v15 ext_first.sl.v27 ext_first.sl.v34 ext_first.sl.HS0_1 ext_first.sl.HS1_3 ext_first.sl.HS3_1 ext_first.sl.HS3_2
    simp only [readAt_origin2, readCov_origin2, read_cat3, read_whole2]
    simp only [readAt_box, ld_only, ld_rowsAt, ld_row0, ld_row1, readCov_rowsAt, readAt_rowsAt, readCov_row0, readCov_row1, readCov_first0, readCov_first1, readCov_putRows harg17]
    unfold extSt extXs
    rw [← ld_only x4 inb_S1_S1_0 (Shape.Idx.first (by decide))]
    exact read_setRows (F := F) _ _ _ _ _ _ _ _ (read_whole2 _ _ _ _ _)

set_option maxHeartbeats 1000000 in
/-- At a point between the first and the last the body takes its rows in. -/
theorem ext_middle (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .smem S1 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .smem S1 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S10000x64 .f32) (harg14 : arg14.IsWhole) (arg15 : Memref sig .tc .vmem S10000x64 .f32) (harg15 : arg15.IsWhole) (arg16 : Memref sig .tc .vmem S10000x128 .bf16) (harg16 : arg16.IsWhole) (arg17 : Memref sig .tc .vmem S10000x64 .f32) (harg17 : arg17.IsWhole) (arg18 : Memref sig .tc .vmem S8x64 .f32) (harg18 : arg18.IsWhole) (hc0 : ¬cond0_0 i) (hc1 : ¬cond0_1 i)
    (x0 : Vec F S400x10000 .f32) (x1 : Vec F S10000x128 .f32) (x2 : Vec F S128x64 .f32) (x3 : Vec F S1x64 .f32) (x4 : Vec F S1 .f32) (x5 : Vec F S1x64 .f32) (x6 : Vec F S1x64 .f32) (x7 : Vec F S64x64 .f32) (x8 : Vec F S1x64 .f32) (x9 : Vec F S64x64 .f32) (x10 : Vec F S1 .f32) (x11 : Vec F S64x64 .f32) (x12 : Vec F S1x64 .f32) (xo x2s xf : Vec F S10000x64 .f32) (xs : Vec F S10000x128 .bf16) (st : Vec F S8x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare xo ∗ owns (c : Thread nD τ) arg15 fullShare xf ∗ owns (c : Thread nD τ) arg16 fullShare xs ∗ owns (c : Thread nD τ) arg17 fullShare x2s ∗ owns (c : Thread nD τ) arg18 fullShare st
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare xo ∗ owns (c : Thread nD τ) arg15 fullShare xf ∗ owns (c : Thread nD τ) arg16 fullShare xs ∗ owns (c : Thread nD τ) arg17 fullShare (extX2 i x0 xs xf x4 x2s) ∗ owns (c : Thread nD τ) arg18 fullShare (extSt i x0 xs xf x4 st)) -∗ K ⟨⟩))
      ⊢ wp frame (wpE (defs₀ (F := F)) Variants.none c none) E (cc0__extract_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__extract_kernel_eq_skeleton]; unfold cc0__extract_kernel_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fH13, %hfH13, H13⟩, ⟨%fHS0, %hfHS0, HS0⟩, ⟨%fHS1, %hfHS1, HS1⟩, ⟨%fHS2, %hfHS2, HS2⟩, ⟨%fHS3, %hfHS3, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hfH13; obtain rfl := harg15.eq_unread hfHS0; obtain rfl := harg16.eq_unread hfHS1; obtain rfl := harg17.eq_unread hfHS2; obtain rfl := harg18.eq_unread hfHS3
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; swap; · iexact H13
    ipureintro
    exact harg14.read_unread _
  isplitl [HS0]
  · iexists _; isplitr; swap; · iexact HS0
    ipureintro
    exact harg15.read_unread _
  isplitl [HS1]
  · iexists _; isplitr; swap; · iexact HS1
    ipureintro
    exact harg16.read_unread _
  isplitl [HS2]
  · iexists _; isplitr; swap; · iexact HS2
    ipureintro
    repeat delta ext_middle.sl.v0 ext_middle.sl.v1 ext_middle.sl.v2 ext_middle.sl.r ext_middle.sl.r_1 ext_middle.sl.v34
    simp only [readAt_origin2, readCov_origin2, read_cat3, read_whole2]
    simp only [readAt_box, ld_only, ld_rowsAt, ld_row0, ld_row1, readCov_rowsAt, readAt_rowsAt, readCov_row0, readCov_row1, readCov_first0, readCov_first1, readCov_putRows harg17]
    unfold extX2
    rw [← ld_only x4 inb_S1_S1_0 (Shape.Idx.first (by decide))]
    exact read_putRows (F := F) _ _ i _ _ _ (harg17.read_unread _)
  · iexists _; isplitr; swap; · iexact HS3
    ipureintro
    repeat delta ext_middle.sl.v0 ext_middle.sl.v1 ext_middle.sl.v2 ext_middle.sl.r ext_middle.sl.r_1 ext_middle.sl.v34
    simp only [readAt_origin2, readCov_origin2, read_cat3, read_whole2]
    simp only [readAt_box, ld_only, ld_rowsAt, ld_row0, ld_row1, readCov_rowsAt, readAt_rowsAt, readCov_row0, readCov_row1, readCov_first0, readCov_first1, readCov_putRows harg17]
    unfold extSt
    rw [← ld_only x4 inb_S1_S1_0 (Shape.Idx.first (by decide))]
    exact read_setRows (F := F) _ _ _ _ _ _ [] _ (harg18.read_unread _)

set_option maxHeartbeats 1000000 in
/-- At the last point the body takes its rows in and stores the result. -/
theorem ext_last (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .smem S1 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .smem S1 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S10000x64 .f32) (harg14 : arg14.IsWhole) (arg15 : Memref sig .tc .vmem S10000x64 .f32) (harg15 : arg15.IsWhole) (arg16 : Memref sig .tc .vmem S10000x128 .bf16) (harg16 : arg16.IsWhole) (arg17 : Memref sig .tc .vmem S10000x64 .f32) (harg17 : arg17.IsWhole) (arg18 : Memref sig .tc .vmem S8x64 .f32) (harg18 : arg18.IsWhole) (hc0 : ¬cond0_0 i) (hc1 : cond0_1 i)
    (x0 : Vec F S400x10000 .f32) (x1 : Vec F S10000x128 .f32) (x2 : Vec F S128x64 .f32) (x3 : Vec F S1x64 .f32) (x4 : Vec F S1 .f32) (x5 : Vec F S1x64 .f32) (x6 : Vec F S1x64 .f32) (x7 : Vec F S64x64 .f32) (x8 : Vec F S1x64 .f32) (x9 : Vec F S64x64 .f32) (x10 : Vec F S1 .f32) (x11 : Vec F S64x64 .f32) (x12 : Vec F S1x64 .f32) (x2s xf : Vec F S10000x64 .f32) (xs : Vec F S10000x128 .bf16) (st : Vec F S8x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ owns (c : Thread nD τ) arg15 fullShare xf ∗ owns (c : Thread nD τ) arg16 fullShare xs ∗ owns (c : Thread nD τ) arg17 fullShare x2s ∗ owns (c : Thread nD τ) arg18 fullShare st
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (extOut (extSt i x0 xs xf x4 st) (extX2 i x0 xs xf x4 x2s) x5 x6 x7 x8 x9 x10 x11 x12) ∗ owns (c : Thread nD τ) arg15 fullShare xf ∗ owns (c : Thread nD τ) arg16 fullShare xs ∗ owns (c : Thread nD τ) arg17 fullShare (extX2 i x0 xs xf x4 x2s) ∗ owns (c : Thread nD τ) arg18 fullShare (extSt i x0 xs xf x4 st)) -∗ K ⟨⟩))
      ⊢ wp frame (wpE (defs₀ (F := F)) Variants.none c none) E (cc0__extract_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__extract_kernel_eq_skeleton]; unfold cc0__extract_kernel_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%dH13, %fH13, -, H13⟩, ⟨%fHS0, %hfHS0, HS0⟩, ⟨%fHS1, %hfHS1, HS1⟩, ⟨%fHS2, %hfHS2, HS2⟩, ⟨%fHS3, %hfHS3, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg15.eq_unread hfHS0; obtain rfl := harg16.eq_unread hfHS1; obtain rfl := harg17.eq_unread hfHS2; obtain rfl := harg18.eq_unread hfHS3
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; swap; · iexact H13
    ipureintro
    repeat delta ext_last.sl.v0 ext_last.sl.v1 ext_last.sl.v2 ext_last.sl.r ext_last.sl.r_1 ext_last.sl.r_2 ext_last.sl.r_3 ext_last.sl.v34 ext_last.sl.v45 ext_last.sl.v48 ext_last.sl.v56 ext_last.sl.HS2_1 ext_last.sl.HS3_2
    unfold extOut extSt extX2
    rw [rowOf0_setRows, rowOf1_setRows]
    rw [← ld_only x4 inb_S1_S1_0 (Shape.Idx.first (by decide))]
    rw [← ld_only x10 inb_S1_S1_0 (Shape.Idx.first (by decide))]
    simp only [readAt_origin2, readCov_origin2, read_cat3, read_whole2]
    simp only [readAt_box, ld_only, ld_rowsAt, ld_row0, ld_row1, readCov_rowsAt, readAt_rowsAt, readCov_row0, readCov_row1, readCov_first0, readCov_first1, readCov_putRows harg17]
  isplitl [HS0]
  · iexists _; isplitr; swap; · iexact HS0
    ipureintro
    exact harg15.read_unread _
  isplitl [HS1]
  · iexists _; isplitr; swap; · iexact HS1
    ipureintro
    exact harg16.read_unread _
  isplitl [HS2]
  · iexists _; isplitr; swap; · iexact HS2
    ipureintro
    repeat delta ext_last.sl.v0 ext_last.sl.v1 ext_last.sl.v2 ext_last.sl.r ext_last.sl.r_1 ext_last.sl.r_2 ext_last.sl.r_3 ext_last.sl.v34 ext_last.sl.v45 ext_last.sl.v48 ext_last.sl.v56 ext_last.sl.HS2_1 ext_last.sl.HS3_2
    simp only [readAt_origin2, readCov_origin2, read_cat3, read_whole2]
    simp only [readAt_box, ld_only, ld_rowsAt, ld_row0, ld_row1, readCov_rowsAt, readAt_rowsAt, readCov_row0, readCov_row1, readCov_first0, readCov_first1, readCov_putRows harg17]
    unfold extX2
    rw [← ld_only x4 inb_S1_S1_0 (Shape.Idx.first (by decide))]
    exact read_putRows (F := F) _ _ i _ _ _ (harg17.read_unread _)
  · iexists _; isplitr; swap; · iexact HS3
    ipureintro
    repeat delta ext_last.sl.v0 ext_last.sl.v1 ext_last.sl.v2 ext_last.sl.r ext_last.sl.r_1 ext_last.sl.r_2 ext_last.sl.r_3 ext_last.sl.v34 ext_last.sl.v45 ext_last.sl.v48 ext_last.sl.v56 ext_last.sl.HS2_1 ext_last.sl.HS3_2
    simp only [readAt_origin2, readCov_origin2, read_cat3, read_whole2]
    simp only [readAt_box, ld_only, ld_rowsAt, ld_row0, ld_row1, readCov_rowsAt, readAt_rowsAt, readCov_row0, readCov_row1, readCov_first0, readCov_first1, readCov_putRows harg17]
    unfold extSt
    rw [← ld_only x4 inb_S1_S1_0 (Shape.Idx.first (by decide))]
    exact read_setRows (F := F) _ _ _ _ _ _ [] _ (harg18.read_unread _)

end Cert.KernelIdeal.Own

end
-- ==== Proof.ExtRegion.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.ExtBody
public import Idealize.ShloMosaic.Lib.Pipeline.Regions
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.Pipeline.ValueKit.Basic
public import Idealize.ShloMosaic.Lib.Pipeline.ReadBack
public import Idealize.ShloMosaic.Lib.Pointwise

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.View
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t` of the extraction, off the contents the region starts from. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Point `n` of the extraction's grid. -/
def pt0 (n : ℕ) : Fin cfg0.N := ⟨n % 25, lt_of_lt_of_eq (Nat.mod_lt _ (by decide)) (show cfg0.N = 25 from N_0).symm⟩

theorem pt0_val (t : Fin cfg0.N) : pt0 t.val = t := Fin.ext (Nat.mod_eq_of_lt (lt_of_lt_of_eq t.isLt (show cfg0.N = 25 from N_0)))

/-- The features, stored at the first point. -/
def xfAt (c : Dev nD) : Vec F S10000x64 .f32 := k0_pay5 (iblk0 V c 1 (pt0 0)) (iblk0 V c 2 (pt0 0)) (iblk0 V c 3 (pt0 0))
/-- The features with their columns of ones and zeros. -/
def xsAt (c : Dev nD) : Vec F S10000x128 .bf16 := extXs (iblk0 V c 1 (pt0 0)) (iblk0 V c 2 (pt0 0)) (iblk0 V c 3 (pt0 0))
/-- The running sums after point `n`. -/
def stAt (c : Dev nD) : ℕ → Vec F S8x64 .f32
  | 0 => extSt (grid0.coords (pt0 0)) (iblk0 V c 0 (pt0 0)) (xsAt V c) (xfAt V c) (iblk0 V c 4 (pt0 0)) k0_pay9
  | n + 1 => extSt (grid0.coords (pt0 (n + 1))) (iblk0 V c 0 (pt0 (n + 1))) (xsAt V c) (xfAt V c) (iblk0 V c 4 (pt0 (n + 1))) (stAt c n)
/-- The aggregated rows after point `n`, from what their buffer held first. -/
def x2At (c : Dev nD) (d : Vec F S10000x64 .f32) : ℕ → Vec F S10000x64 .f32
  | 0 => extX2 (grid0.coords (pt0 0)) (iblk0 V c 0 (pt0 0)) (xsAt V c) (xfAt V c) (iblk0 V c 4 (pt0 0)) d
  | n + 1 => extX2 (grid0.coords (pt0 (n + 1))) (iblk0 V c 0 (pt0 (n + 1))) (xsAt V c) (xfAt V c) (iblk0 V c 4 (pt0 (n + 1))) (x2At c d n)

theorem coords0_val (t : Fin cfg0.N) : (grid0.coords t 0).val = t.val := by
  have ht : t.val < 25 := Nat.lt_of_lt_of_eq t.isLt N_0
  have e0 : (grid0.coords t 0).val = t.val / 1 % 25 := Pipeline.Grid.coords_val t 0 (by decide) rfl
  rw [e0]; omega

theorem x2At_rows (c : Dev nD) (d d' : Vec F S10000x64 .f32) (n : ℕ) (hn : n < 25) (y : S10000x64.Idx) (hy : (y 0).val < 400 * (n + 1)) :
    x2At V c d n y = x2At V c d' n y := by
  induction n with
  | zero =>
    unfold x2At extX2 putRows
    have hb : 400 * (grid0.coords (pt0 0) 0).val ≤ (y 0).val ∧ (y 0).val < 400 * (grid0.coords (pt0 0) 0).val + 400 := by
      rw [coords0_val]; show 400 * (0 % 25) ≤ (y 0).val ∧ (y 0).val < 400 * (0 % 25) + 400; omega
    rw [dif_pos hb, dif_pos hb]
  | succ n ih =>
    unfold x2At extX2 putRows
    split
    · rfl
    · rename_i h
      refine ih (by omega) ?_
      rw [coords0_val] at h
      have e : (pt0 (n + 1)).val = n + 1 := Nat.mod_eq_of_lt hn
      rw [e] at h
      omega

/-- After the last point nothing is left of what the buffer held first. -/
theorem x2At_last (c : Dev nD) (d : Vec F S10000x64 .f32) : x2At V c d 24 = x2At V c (xfAt V c) 24 := by
  funext y
  exact x2At_rows V c _ _ 24 (by decide) y (by have : (y 0).val < 10000 := (y 0).isLt; omega)

/-- The extraction's result. -/
def outAt0 (c : Dev nD) : Vec F S10000x64 .f32 :=
  extOut (stAt V c 24) (x2At V c (xfAt V c) 24) (iblk0 V c 5 (pt0 24)) (iblk0 V c 6 (pt0 24)) (iblk0 V c 7 (pt0 24)) (iblk0 V c 8 (pt0 24)) (iblk0 V c 9 (pt0 24)) (iblk0 V c 10 (pt0 24)) (iblk0 V c 11 (pt0 24)) (iblk0 V c 12 (pt0 24))

/-- The other scoped buffers, at anything. -/
def restO (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))

/-- What the scratch buffers hold before point `n`. -/
def Phi0 (c : Dev nD) : ℕ → sProp 𝕄
  | 0 => iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ restO c)
  | n + 1 => iprop(owns (c : Thread nD τ) (Memref.whole cc0_scratch0) fullShare (xfAt V c) ∗ owns (c : Thread nD τ) (Memref.whole cc0_scratch1) fullShare (xsAt V c) ∗ (∃ d, owns (c : Thread nD τ) (Memref.whole cc0_scratch2) fullShare (x2At V c d n)) ∗ owns (c : Thread nD τ) (Memref.whole cc0_scratch3) fullShare (stAt V c n) ∗ restO c)

theorem Phi0_zero (c : Dev nD) : Phi0 V c 0 = iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ restO c) := rfl
theorem Phi0_succ (c : Dev nD) (n : ℕ) : Phi0 V c (n + 1) = iprop(owns (c : Thread nD τ) (Memref.whole cc0_scratch0) fullShare (xfAt V c) ∗ owns (c : Thread nD τ) (Memref.whole cc0_scratch1) fullShare (xsAt V c) ∗ (∃ d, owns (c : Thread nD τ) (Memref.whole cc0_scratch2) fullShare (x2At V c d n)) ∗ owns (c : Thread nD τ) (Memref.whole cc0_scratch3) fullShare (stAt V c n) ∗ restO c) := rfl

theorem scopedRest0_owned (c : Dev nD) :
    (Pipeline.scopedRest (Ix := Unit) (Name := ℕ) (U := UR sig nD τ) (Lvl := ℕ) (Val := Elt F) spec0 c : sProp 𝕄) = Phi0 V c 0 := by
  rw [scopedRest0_eq]; rw [Phi0_zero]; unfold restO; simp only [owns_whole]

theorem Phi0_forget (c : Dev nD) (n : ℕ) : Phi0 V c (n + 1) ⊢ Phi0 V c 0 := by
  rw [Phi0_zero, Phi0_succ]
  iintro ⟨H0, H1, ⟨%d, H2⟩, H3, HR⟩
  isplitl [H0]; · iexists _; iexact H0
  isplitl [H1]; · iexists _; iexact H1
  isplitl [H2]; · iexists _; iexact H2
  isplitl [H3]; · iexists _; iexact H3
  iexact HR

/-- The extraction's proof data from the contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => outAt0 V c
  Φ t := Phi0 V c t.val
  q _ := fullShare
  owed _ := 0

theorem dat0_A (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = outAt0 V c := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [dat0_A]; try rfl) t d).trans
    (by unfold Dat.fetched Dat.blockOf iblk0; rw [dat0_A]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [dat0_A]; try rfl) t d).trans
    (by unfold Dat.fetched Dat.blockOf iblk0; rw [dat0_A]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [dat0_A]; try rfl) t d).trans
    (by unfold Dat.fetched Dat.blockOf iblk0; rw [dat0_A]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [dat0_A]; try rfl) t d).trans
    (by unfold Dat.fetched Dat.blockOf iblk0; rw [dat0_A]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [dat0_A]; try rfl) t d).trans
    (by unfold Dat.fetched Dat.blockOf iblk0; rw [dat0_A]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [dat0_A]; try rfl) t d).trans
    (by unfold Dat.fetched Dat.blockOf iblk0; rw [dat0_A]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [dat0_A]; try rfl) t d).trans
    (by unfold Dat.fetched Dat.blockOf iblk0; rw [dat0_A]; try rfl)
theorem before0_7 (c : Dev nD) (t : Fin cfg0.N) (d) : (dat0 V c).before 7 t d = iblk0 V c 7 t :=
  ((dat0 V c).before_in_eq_fetched 7 rfl (fun _ => rfl) (fun _ _ _ => rfl) (fun t => by rw [after0_7]; unfold Dat.blockOf iblk0; rw [dat0_A]; try rfl) t d).trans
    (by unfold Dat.fetched Dat.blockOf iblk0; rw [dat0_A]; try rfl)
theorem before0_8 (c : Dev nD) (t : Fin cfg0.N) (d) : (dat0 V c).before 8 t d = iblk0 V c 8 t :=
  ((dat0 V c).before_in_eq_fetched 8 rfl (fun _ => rfl) (fun _ _ _ => rfl) (fun t => by rw [after0_8]; unfold Dat.blockOf iblk0; rw [dat0_A]; try rfl) t d).trans
    (by unfold Dat.fetched Dat.blockOf iblk0; rw [dat0_A]; try rfl)
theorem before0_9 (c : Dev nD) (t : Fin cfg0.N) (d) : (dat0 V c).before 9 t d = iblk0 V c 9 t :=
  ((dat0 V c).before_in_eq_fetched 9 rfl (fun _ => rfl) (fun _ _ _ => rfl) (fun t => by rw [after0_9]; unfold Dat.blockOf iblk0; rw [dat0_A]; try rfl) t d).trans
    (by unfold Dat.fetched Dat.blockOf iblk0; rw [dat0_A]; try rfl)
theorem before0_10 (c : Dev nD) (t : Fin cfg0.N) (d) : (dat0 V c).before 10 t d = iblk0 V c 10 t :=
  ((dat0 V c).before_in_eq_fetched 10 rfl (fun _ => rfl) (fun _ _ _ => rfl) (fun t => by rw [after0_10]; unfold Dat.blockOf iblk0; rw [dat0_A]; try rfl) t d).trans
    (by unfold Dat.fetched Dat.blockOf iblk0; rw [dat0_A]; try rfl)
theorem before0_11 (c : Dev nD) (t : Fin cfg0.N) (d) : (dat0 V c).before 11 t d = iblk0 V c 11 t :=
  ((dat0 V c).before_in_eq_fetched 11 rfl (fun _ => rfl) (fun _ _ _ => rfl) (fun t => by rw [after0_11]; unfold Dat.blockOf iblk0; rw [dat0_A]; try rfl) t d).trans
    (by unfold Dat.fetched Dat.blockOf iblk0; rw [dat0_A]; try rfl)
theorem before0_12 (c : Dev nD) (t : Fin cfg0.N) (d) : (dat0 V c).before 12 t d = iblk0 V c 12 t :=
  ((dat0 V c).before_in_eq_fetched 12 rfl (fun _ => rfl) (fun _ _ _ => rfl) (fun t => by rw [after0_12]; unfold Dat.blockOf iblk0; rw [dat0_A]; try rfl) t d).trans
    (by unfold Dat.fetched Dat.blockOf iblk0; rw [dat0_A]; try rfl)

theorem hcond0_0 (t : Fin cfg0.N) : cond0_0 (grid0.coords t) ↔ t.val % 25 = 0 := by
  have ht : t.val < 25 := Nat.lt_of_lt_of_eq t.isLt N_0
  have e0 : (grid0.coords t 0).val = t.val / 1 % 25 := Pipeline.Grid.coords_val t 0 (by decide) rfl
  simp only [cond0_0, e0]
  word_cmp

theorem hcond0_1 (t : Fin cfg0.N) : cond0_1 (grid0.coords t) ↔ t.val % 25 = 24 := by
  have ht : t.val < 25 := Nat.lt_of_lt_of_eq t.isLt N_0
  have e0 : (grid0.coords t 0).val = t.val / 1 % 25 := Pipeline.Grid.coords_val t 0 (by decide) rfl
  simp only [cond0_1, k0_cond2, e0]
  word_cmp

theorem leaves0_idle (c : Dev nD) (t : Fin cfg0.N) (h : ¬t.val % 25 = 24) :
    (dat0 V c).leavesExact 13 t = iprop(∃ d, owns (c : Thread nD τ) (win0_13.stage (cfg0.slots t 13)) fullShare ((dat0 V c).before 13 t d)) := by
  refine Dat.leavesExact_idle _ 13 t ?_ (Bool.eq_false_iff.mpr fun hf => h ((flush0_13 t).mp hf))
  have h1 : ¬k0_cond2 (grid0.coords t) = 1#1 := fun hh => h ((hcond0_1 t).mp hh)
  show (!(k0_cond2 (grid0.coords t) == 1#1)) = true
  rw [beq_eq_false_iff_ne.mpr h1]; rfl

theorem leaves0_last (c : Dev nD) (t : Fin cfg0.N) (h : t.val % 25 = 24) :
    (dat0 V c).leavesExact 13 t = owns (c : Thread nD τ) (win0_13.stage (cfg0.slots t 13)) fullShare (outAt0 V c) := by
  have h1 : k0_cond2 (grid0.coords t) = 1#1 := (hcond0_1 t).mpr h
  have hi : cfg0.idle 13 (cfg0.grid.coords t) = false := by
    show (!(k0_cond2 (grid0.coords t) == 1#1)) = false
    rw [h1]; rfl
  unfold Dat.leavesExact
  rw [hi, after0_13]

/-- What the body starts from at point `t`. -/
def pre0 (c : Dev nD) (t : Fin cfg0.N) : sProp 𝕄 :=
  iprop((dat0 V c).Φ t.castSucc ∗ (dat0 V c).owesAt () t.castSucc ∗ (∃ d, owns (c : Thread nD τ) (win0_0.stage (cfg0.slots t 0)) fullShare ((dat0 V c).before 0 t d)) ∗ (∃ d, owns (c : Thread nD τ) (win0_1.stage (cfg0.slots t 1)) fullShare ((dat0 V c).before 1 t d)) ∗ (∃ d, owns (c : Thread nD τ) (win0_2.stage (cfg0.slots t 2)) fullShare ((dat0 V c).before 2 t d)) ∗ (∃ d, owns (c : Thread nD τ) (win0_3.stage (cfg0.slots t 3)) fullShare ((dat0 V c).before 3 t d)) ∗ (∃ d, owns (c : Thread nD τ) (win0_4.stage (cfg0.slots t 4)) fullShare ((dat0 V c).before 4 t d)) ∗ (∃ d, owns (c : Thread nD τ) (win0_5.stage (cfg0.slots t 5)) fullShare ((dat0 V c).before 5 t d)) ∗ (∃ d, owns (c : Thread nD τ) (win0_6.stage (cfg0.slots t 6)) fullShare ((dat0 V c).before 6 t d)) ∗ (∃ d, owns (c : Thread nD τ) (win0_7.stage (cfg0.slots t 7)) fullShare ((dat0 V c).before 7 t d)) ∗ (∃ d, owns (c : Thread nD τ) (win0_8.stage (cfg0.slots t 8)) fullShare ((dat0 V c).before 8 t d)) ∗ (∃ d, owns (c : Thread nD τ) (win0_9.stage (cfg0.slots t 9)) fullShare ((dat0 V c).before 9 t d)) ∗ (∃ d, owns (c : Thread nD τ) (win0_10.stage (cfg0.slots t 10)) fullShare ((dat0 V c).before 10 t d)) ∗ (∃ d, owns (c : Thread nD τ) (win0_11.stage (cfg0.slots t 11)) fullShare ((dat0 V c).before 11 t d)) ∗ (∃ d, owns (c : Thread nD τ) (win0_12.stage (cfg0.slots t 12)) fullShare ((dat0 V c).before 12 t d)) ∗ (∃ d, owns (c : Thread nD τ) (win0_13.stage (cfg0.slots t 13)) fullShare ((dat0 V c).before 13 t d)))
/-- What it leaves. -/
def post0 (c : Dev nD) (t : Fin cfg0.N) : sProp 𝕄 :=
  iprop((dat0 V c).Φ t.succ ∗ (dat0 V c).owesAt () t.succ ∗ owns (c : Thread nD τ) (win0_0.stage (cfg0.slots t 0)) fullShare ((dat0 V c).after 0 t) ∗ owns (c : Thread nD τ) (win0_1.stage (cfg0.slots t 1)) fullShare ((dat0 V c).after 1 t) ∗ owns (c : Thread nD τ) (win0_2.stage (cfg0.slots t 2)) fullShare ((dat0 V c).after 2 t) ∗ owns (c : Thread nD τ) (win0_3.stage (cfg0.slots t 3)) fullShare ((dat0 V c).after 3 t) ∗ owns (c : Thread nD τ) (win0_4.stage (cfg0.slots t 4)) fullShare ((dat0 V c).after 4 t) ∗ owns (c : Thread nD τ) (win0_5.stage (cfg0.slots t 5)) fullShare ((dat0 V c).after 5 t) ∗ owns (c : Thread nD τ) (win0_6.stage (cfg0.slots t 6)) fullShare ((dat0 V c).after 6 t) ∗ owns (c : Thread nD τ) (win0_7.stage (cfg0.slots t 7)) fullShare ((dat0 V c).after 7 t) ∗ owns (c : Thread nD τ) (win0_8.stage (cfg0.slots t 8)) fullShare ((dat0 V c).after 8 t) ∗ owns (c : Thread nD τ) (win0_9.stage (cfg0.slots t 9)) fullShare ((dat0 V c).after 9 t) ∗ owns (c : Thread nD τ) (win0_10.stage (cfg0.slots t 10)) fullShare ((dat0 V c).after 10 t) ∗ owns (c : Thread nD τ) (win0_11.stage (cfg0.slots t 11)) fullShare ((dat0 V c).after 11 t) ∗ owns (c : Thread nD τ) (win0_12.stage (cfg0.slots t 12)) fullShare ((dat0 V c).after 12 t) ∗ (dat0 V c).leavesExact 13 t)

set_option maxHeartbeats 1000000 in
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3, before0_4, before0_5, before0_6, before0_7, before0_8, before0_9, before0_10, before0_11, before0_12]
  rw [show (dat0 V c).Φ t.succ = Phi0 V c (t.val + 1) from rfl, show (dat0 V c).Φ t.castSucc = Phi0 V c t.val from rfl,
    show (dat0 V c).owesAt () t.succ = (dat0 V c).owesAt () t.castSucc from rfl,
    after0_0, after0_1, after0_2, after0_3, after0_4, after0_5, after0_6, after0_7, after0_8, after0_9, after0_10, after0_11, after0_12]
  have hN : t.val < 25 := lt_of_lt_of_eq t.isLt (show cfg0.N = 25 from N_0)
  by_cases h0 : t.val % 25 = 0
  · have ht : t.val = 0 := by omega
    have hp : t = pt0 0 := by rw [← pt0_val t, ht]
    rw [leaves0_idle V c t (by omega), ht]
    rw [Phi0_zero, Phi0_succ]
    unfold stAt x2At xfAt xsAt
    rw [← hp]
    iintro ⟨⟨⟨%e0, HS0⟩, ⟨%e1, HS1⟩, ⟨%e2, HS2⟩, ⟨%e3, HS3⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (ext_first c (grid0.coords t) _ _ _ _ _ _ _ _ _ _ _ _ _ _ _ _ _ _ _ _ _ _ _ _ _ _ _ _ _ _ _ _ _ _ _ _ ((hcond0_0 t).mpr h0) (fun h => by have := (hcond0_1 t).mp h; omega) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) _ e2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexists _; iexact HS0
    isplitl [HS1]; · iexists _; iexact HS1
    isplitl [HS2]; · iexact HS2
    isplitl [HS3]; · iexists _; iexact HS3
    iintro ⟨H0, H1, H2, H3, H4, H5, H6, H7, H8, H9, H10, H11, H12, H13, HS0, HS1, HS2, HS3⟩
    isplitl [HS0 HS1 HS2 HS3 HR]
    · isplitl [HS0]; · iexact HS0
      isplitl [HS1]; · iexact HS1
      isplitl [HS2]; · iexists _; iexact HS2
      isplitl [HS3]; · iexact HS3
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexists d13; iexact H13
  · obtain ⟨n, hn⟩ : ∃ n, t.val = n + 1 := ⟨t.val - 1, by omega⟩
    have hp : t = pt0 (n + 1) := by rw [← hn, pt0_val t]
    by_cases h1 : t.val % 25 = 24
    · have hn' : n = 23 := by omega
      subst hn'
      rw [leaves0_last V c t h1, hn]
      unfold outAt0
      simp only [Phi0_succ]
      rw [show stAt V c (23 + 1) = extSt (grid0.coords t) (iblk0 V c 0 t) (xsAt V c) (xfAt V c) (iblk0 V c 4 t) (stAt V c 23) from by rw [hp]; rfl]
      have hx : ∀ d, x2At V c d 24 = extX2 (grid0.coords t) (iblk0 V c 0 t) (xsAt V c) (xfAt V c) (iblk0 V c 4 t) (x2At V c d 23) := fun d => by rw [hp]; rfl
      rw [show pt0 24 = t from hp.symm]
      iintro ⟨⟨HS0, HS1, ⟨%e2, HS2⟩, HS3, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (ext_last c (grid0.coords t) _ _ _ _ _ _ _ _ _ _ _ _ _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, HS0, HS1, HS2, HS3⟩
      isplitl [HS0 HS1 HS2 HS3 HR]
      · isplitl [HS0]; · iexact HS0
        isplitl [HS1]; · iexact HS1
        isplitl [HS2]; · iexists e2; rw [hx e2]; iexact HS2
        isplitl [HS3]; · iexact HS3
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      rw [← x2At_last V c e2, hx e2]
      iexact H13
    · rw [leaves0_idle V c t h1, hn]
      simp only [Phi0_succ]
      rw [show stAt V c (n + 1) = extSt (grid0.coords t) (iblk0 V c 0 t) (xsAt V c) (xfAt V c) (iblk0 V c 4 t) (stAt V c n) from by rw [hp]; rfl]
      have hx : ∀ d, x2At V c d (n + 1) = extX2 (grid0.coords t) (iblk0 V c 0 t) (xsAt V c) (xfAt V c) (iblk0 V c 4 t) (x2At V c d n) := fun d => by rw [hp]; rfl
      iintro ⟨⟨HS0, HS1, ⟨%e2, HS2⟩, HS3, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (ext_middle c (grid0.coords t) _ _ _ _ _ _ _ _ _ _ _ _ _ _ _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, HS0, HS1, HS2, HS3⟩
      isplitl [HS0 HS1 HS2 HS3 HR]
      · isplitl [HS0]; · iexact HS0
        isplitl [HS1]; · iexact HS1
        isplitl [HS2]; · iexists e2; rw [hx e2]; iexact HS2
        isplitl [HS3]; · iexact HS3
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexists d13; iexact H13

theorem defs₀_row0 (t : Fin cfg0.N) : defs₀ (F := F) .tc cfg0.body (cfg0.bodyArgs t (cfg0.slots t)) = bodyAt0 t := by
  unfold defs₀; rw [Defs.onTc_tc]

theorem obligation0 (c : Dev nD) : BodyObligation (dat0 V c) (defs₀ (F := F)) Variants.none () Set.univ := fun t => by
  rw [bigSep_W0, bigSep_W0, defs₀_row0]
  exact triple_restated (sound0 V c t) rfl .rfl fun _ => .rfl

end Cert.KernelIdeal.Own

end
-- ==== Proof.GruBody.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.GruVal
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.Pipeline.ValueKit.Basic
public import Idealize.ShloMosaic.Lib.Pipeline.ReadBack
public import Idealize.ShloMosaic.Lib.Pointwise

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.View
open Idealize.ShloMosaic.Pipeline (Dat Cfg Window BodyObligation cellOf)

variable {F : FTy → Type} [FloatOps F]

local notation "𝕄" => MT nD τ sig Unit (Elt F) ℕ (UR sig nD τ) ℕ

/-- The condition under which the recurrence's body clears its result: the first point. -/
abbrev cond1_0 (i : grid1.Coords) : Prop := (Scalar.cmpi .ne (Scalar.extui (Scalar.cmpi .eq (BitVec.ofNat 32 (i 0).val) 0#32)) 0#32) = 1#1

set_option maxHeartbeats 1000000 in
/-- At a later point the body leaves the next state of what its result held. -/
theorem gru_later (c : Dev nD) (i : grid1.Coords) (arg1 : Memref sig .tc .vmem S12x4x10000 .f32) (harg1 : arg1.IsWhole) (arg2 : Memref sig .tc .vmem S10000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S40000x64 .f32) (harg10 : arg10.IsWhole) (arg11 : Memref sig .tc .vmem S10000x128 .bf16) (harg11 : arg11.IsWhole) (arg12 : Memref sig .tc .vmem S10000x64 .f32) (harg12 : arg12.IsWhole) (arg13 : Memref sig .tc .vmem S10000x64 .f32) (harg13 : arg13.IsWhole) (hc0 : ¬cond1_0 i)
    (x0 : Vec F S12x4x10000 .f32) (x1 : Vec F S10000x64 .f32) (x2 : Vec F S64x128 .f32) (x3 : Vec F S1x128 .f32) (x4 : Vec F S1x128 .f32) (x5 : Vec F S64x64 .f32) (x6 : Vec F S1x64 .f32) (x7 : Vec F S1x64 .f32) (x8 : Vec F S64x64 .f32) (xo : Vec F S40000x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xo ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (gruOut i x0 x1 x2 x3 x4 x5 x6 x7 x8 xo) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc1__gru_kernel i arg1 harg1 arg2 harg2 arg3 harg3 arg4 harg4 arg5 harg5 arg6 harg6 arg7 harg7 arg8 harg8 arg9 harg9 arg10 harg10 arg11 harg11 arg12 harg12 arg13 harg13) K := by
  simp only [cc1__gru_kernel_eq_skeleton]; unfold cc1__gru_kernel_skel
  simp only [k1_part1_eq_skeleton, k1_part2_eq_skeleton, k1_part3_eq_skeleton, k1_part4_eq_skeleton, k1_part5_eq_skeleton, k1_part6_eq_skeleton, k1_part7_eq_skeleton, k1_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; swap; · iexact H9
    ipureintro
    refine read_four _ _ _ _ _ _ _ _ _ _ _ i x0 x1 x2 x3 x4 x5 x6 x7 x8 xo ?_ ?_ ?_ ?_
    all_goals
      repeat delta gru_later.sl.v0 gru_later.sl.v1 gru_later.sl.v2 gru_later.sl.cst_135 gru_later.sl.r gru_later.sl.r_1 gru_later.sl.r_2 gru_later.sl.r_3 gru_later.sl.r_4 gru_later.sl.r_5 gru_later.sl.r_6 gru_later.sl.r_7 gru_later.sl.r_8 gru_later.sl.r_9 gru_later.sl.r_10 gru_later.sl.r_11 gru_later.sl.r_12 gru_later.sl.r_13 gru_later.sl.r_14 gru_later.sl.r_15 gru_later.sl.r_16 gru_later.sl.r_17 gru_later.sl.r_18 gru_later.sl.r_19 gru_later.sl.r_20 gru_later.sl.r_21 gru_later.sl.v31 gru_later.sl.v33 gru_later.sl.v109 gru_later.sl.v111 gru_later.sl.v187 gru_later.sl.v189 gru_later.sl.v265 gru_later.sl.v267 gru_later.sl.v83 gru_later.sl.v161 gru_later.sl.v239 gru_later.sl.v304 gru_later.sl.HS0_1 gru_later.sl.HS0_2 gru_later.sl.HS0_3 gru_later.sl.HS0_4 gru_later.sl.HS1_2 gru_later.sl.HS1_4 gru_later.sl.HS1_6 gru_later.sl.HS1_8 gru_later.sl.HS2_2 gru_later.sl.HS2_4 gru_later.sl.HS2_6 gru_later.sl.HS2_8
      simp only [readAt_origin2]
      simp only [readAt_box, ld_in0, ld_in1, ld_in2, ld_in3, ld_state0, ld_state1, ld_state2, ld_state3, readCov_gates, read_rows2]
    · exact text0 _ _ _ _ _ _ _ _ _ _
    · exact text1 _ _ _ _ _ _ _ _ _ _
    · exact text2 _ _ _ _ _ _ _ _ _ _
    · exact text3 _ _ _ _ _ _ _ _ _ _
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

set_option maxHeartbeats 1000000 in
/-- At the first point the body leaves the next state of zeros, whatever its result held. -/
theorem gru_first (c : Dev nD) (i : grid1.Coords) (arg1 : Memref sig .tc .vmem S12x4x10000 .f32) (harg1 : arg1.IsWhole) (arg2 : Memref sig .tc .vmem S10000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S40000x64 .f32) (harg10 : arg10.IsWhole) (arg11 : Memref sig .tc .vmem S10000x128 .bf16) (harg11 : arg11.IsWhole) (arg12 : Memref sig .tc .vmem S10000x64 .f32) (harg12 : arg12.IsWhole) (arg13 : Memref sig .tc .vmem S10000x64 .f32) (harg13 : arg13.IsWhole) (hc0 : cond1_0 i)
    (x0 : Vec F S12x4x10000 .f32) (x1 : Vec F S10000x64 .f32) (x2 : Vec F S64x128 .f32) (x3 : Vec F S1x128 .f32) (x4 : Vec F S1x128 .f32) (x5 : Vec F S64x64 .f32) (x6 : Vec F S1x64 .f32) (x7 : Vec F S1x64 .f32) (x8 : Vec F S64x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (gruOut i x0 x1 x2 x3 x4 x5 x6 x7 x8 k1_pay2) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc1__gru_kernel i arg1 harg1 arg2 harg2 arg3 harg3 arg4 harg4 arg5 harg5 arg6 harg6 arg7 harg7 arg8 harg8 arg9 harg9 arg10 harg10 arg11 harg11 arg12 harg12 arg13 harg13) K := by
  simp only [cc1__gru_kernel_eq_skeleton]; unfold cc1__gru_kernel_skel
  simp only [k1_part1_eq_skeleton, k1_part2_eq_skeleton, k1_part3_eq_skeleton, k1_part4_eq_skeleton, k1_part5_eq_skeleton, k1_part6_eq_skeleton, k1_part7_eq_skeleton, k1_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%do9, %f9, -, H9⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; swap; · iexact H9
    ipureintro
    refine read_four _ _ _ _ _ _ _ _ _ _ _ i x0 x1 x2 x3 x4 x5 x6 x7 x8 k1_pay2 ?_ ?_ ?_ ?_
    all_goals
      repeat delta gru_first.sl.v5 gru_first.sl.v285 gru_first.sl.v226 gru_first.sl.v129 gru_first.sl.v207 gru_first.sl.v148 gru_first.sl.v0 gru_first.sl.v1 gru_first.sl.v2 gru_first.sl.cst_135 gru_first.sl.r gru_first.sl.r_1 gru_first.sl.r_2 gru_first.sl.r_3 gru_first.sl.r_4 gru_first.sl.r_5 gru_first.sl.r_6 gru_first.sl.r_7 gru_first.sl.r_8 gru_first.sl.r_9 gru_first.sl.r_10 gru_first.sl.r_11 gru_first.sl.r_12 gru_first.sl.r_13 gru_first.sl.r_14 gru_first.sl.r_15 gru_first.sl.r_16 gru_first.sl.r_17 gru_first.sl.r_18 gru_first.sl.r_19 gru_first.sl.r_20 gru_first.sl.r_21 gru_first.sl.v31 gru_first.sl.v33 gru_first.sl.v109 gru_first.sl.v111 gru_first.sl.v187 gru_first.sl.v189 gru_first.sl.v265 gru_first.sl.v267 gru_first.sl.v83 gru_first.sl.v161 gru_first.sl.v239 gru_first.sl.v304 gru_first.sl.HS0_1 gru_first.sl.HS0_2 gru_first.sl.HS0_3 gru_first.sl.HS0_4 gru_first.sl.HS1_2 gru_first.sl.HS1_4 gru_first.sl.HS1_6 gru_first.sl.HS1_8 gru_first.sl.HS2_2 gru_first.sl.HS2_4 gru_first.sl.HS2_6 gru_first.sl.HS2_8
      repeat delta gru_first.sl.H9_1 gru_first.sl.H9_2 gru_first.sl.H9_3 gru_first.sl.H9_4
      simp only [readCov_state0, readCov_state1, readCov_state2, readCov_state3]
      simp only [readAt_origin2]
      simp only [readAt_box, ld_in0, ld_in1, ld_in2, ld_in3, ld_state0, ld_state1, ld_state2, ld_state3, readCov_gates, read_rows2]
    · exact text0 _ _ _ _ _ _ _ _ _ _
    · exact text1 _ _ _ _ _ _ _ _ _ _
    · exact text2 _ _ _ _ _ _ _ _ _ _
    · exact text3 _ _ _ _ _ _ _ _ _ _
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

end Cert.KernelIdeal.Own

end
-- ==== Proof.GruRegion.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.GruBody
public import Idealize.ShloMosaic.Lib.Pipeline.Regions
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.Pipeline.ValueKit.Basic
public import Idealize.ShloMosaic.Lib.Pipeline.ReadBack
public import Idealize.ShloMosaic.Lib.Pointwise

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.View
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t` of the recurrence, off the contents the region starts from. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The recurrence's point `t` over what the result's block held. -/
def gruAt (c : Dev nD) (t : Fin cfg1.N) (xo : Vec F S40000x64 .f32) : Vec F S40000x64 .f32 :=
  gruOut (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) xo

/-- What the result's block holds after point `n`. -/
def outs1 (c : Dev nD) : (n : ℕ) → n < cfg1.N → Vec F S40000x64 .f32
  | 0, hn => gruAt V c ⟨0, hn⟩ k1_pay2
  | n + 1, hn => gruAt V c ⟨n + 1, hn⟩ (outs1 c n (Nat.lt_of_succ_lt hn))

theorem outs1_first (c : Dev nD) (t : Fin cfg1.N) (h0 : t.val % 12 = 0) : outs1 V c t.val t.isLt = gruAt V c t k1_pay2 := by
  obtain ⟨n, hn⟩ := t
  cases n with
  | zero => rfl
  | succ n =>
    have : n + 1 < 12 := lt_of_lt_of_eq hn (show cfg1.N = 12 from N_1)
    dsimp only at h0
    omega

theorem outs1_later (c : Dev nD) (t : Fin cfg1.N) (h0 : ¬t.val % 12 = 0) :
    outs1 V c t.val t.isLt = gruAt V c t (outs1 V c (t.val - 1) (Nat.lt_of_le_of_lt (Nat.sub_le _ _) t.isLt)) := by
  obtain ⟨n, hn⟩ := t
  cases n with
  | zero => exact absurd rfl h0
  | succ n => rfl

/-- The buffers no window of the recurrence stages, at anything. -/
abbrev Phi1 (c : Dev nD) : sProp 𝕄 := Pipeline.scopedRest (Ix := Unit) (Name := ℕ) (U := UR sig nD τ) (Lvl := ℕ) (Val := Elt F) spec1 c

/-- The recurrence's proof data from the contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => outs1 V c t.val t.isLt
  Φ _ := Phi1 c
  q _ := fullShare
  owed _ := 0

theorem dat1_A (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = outs1 V c t.val t.isLt := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [dat1_A]; try rfl) t d).trans
    (by unfold Dat.fetched Dat.blockOf iblk1; rw [dat1_A]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [dat1_A]; try rfl) t d).trans
    (by unfold Dat.fetched Dat.blockOf iblk1; rw [dat1_A]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [dat1_A]; try rfl) t d).trans
    (by unfold Dat.fetched Dat.blockOf iblk1; rw [dat1_A]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [dat1_A]; try rfl) t d).trans
    (by unfold Dat.fetched Dat.blockOf iblk1; rw [dat1_A]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [dat1_A]; try rfl) t d).trans
    (by unfold Dat.fetched Dat.blockOf iblk1; rw [dat1_A]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [dat1_A]; try rfl) t d).trans
    (by unfold Dat.fetched Dat.blockOf iblk1; rw [dat1_A]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [dat1_A]; try rfl) t d).trans
    (by unfold Dat.fetched Dat.blockOf iblk1; rw [dat1_A]; try rfl)
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [dat1_A]; try rfl) t d).trans
    (by unfold Dat.fetched Dat.blockOf iblk1; rw [dat1_A]; try rfl)
theorem before1_8 (c : Dev nD) (t : Fin cfg1.N) (d) : (dat1 V c).before 8 t d = iblk1 V c 8 t :=
  ((dat1 V c).before_in_eq_fetched 8 rfl (fun _ => rfl) (fun _ _ _ => rfl) (fun t => by rw [after1_8]; unfold Dat.blockOf iblk1; rw [dat1_A]; try rfl) t d).trans
    (by unfold Dat.fetched Dat.blockOf iblk1; rw [dat1_A]; try rfl)

theorem before1_9 (c : Dev nD) (t : Fin cfg1.N) (h0 : ¬t.val % 12 = 0) (d) :
    (dat1 V c).before 9 t d = outs1 V c (t.val - 1) (Nat.lt_of_le_of_lt (Nat.sub_le _ _) t.isLt) := by
  have hN : t.val < 12 := lt_of_lt_of_eq t.isLt (show cfg1.N = 12 from N_1)
  rw [Dat.before_out_kept _ 9 rfl t (by omega) (Bool.eq_false_iff.mpr fun h => by have := (flush1_9 _).mp h; dsimp only at this; omega) (fun _ => rfl) (fun _ _ => rfl)]
  dsimp only [dat1]

theorem hcond1_0 (t : Fin cfg1.N) : cond1_0 (grid1.coords t) ↔ t.val % 12 = 0 := by
  have ht : t.val < 12 := Nat.lt_of_lt_of_eq t.isLt N_1
  have e0 : (grid1.coords t 0).val = t.val / 1 % 12 := Pipeline.Grid.coords_val t 0 (by decide) rfl
  simp only [cond1_0, e0]
  word_cmp

/-- What the body starts from at point `t`. -/
def pre1 (c : Dev nD) (t : Fin cfg1.N) : sProp 𝕄 :=
  iprop((dat1 V c).Φ t.castSucc ∗ (dat1 V c).owesAt () t.castSucc ∗ (∃ d, owns (c : Thread nD τ) (win1_0.stage (cfg1.slots t 0)) fullShare ((dat1 V c).before 0 t d)) ∗ (∃ d, owns (c : Thread nD τ) (win1_1.stage (cfg1.slots t 1)) fullShare ((dat1 V c).before 1 t d)) ∗ (∃ d, owns (c : Thread nD τ) (win1_2.stage (cfg1.slots t 2)) fullShare ((dat1 V c).before 2 t d)) ∗ (∃ d, owns (c : Thread nD τ) (win1_3.stage (cfg1.slots t 3)) fullShare ((dat1 V c).before 3 t d)) ∗ (∃ d, owns (c : Thread nD τ) (win1_4.stage (cfg1.slots t 4)) fullShare ((dat1 V c).before 4 t d)) ∗ (∃ d, owns (c : Thread nD τ) (win1_5.stage (cfg1.slots t 5)) fullShare ((dat1 V c).before 5 t d)) ∗ (∃ d, owns (c : Thread nD τ) (win1_6.stage (cfg1.slots t 6)) fullShare ((dat1 V c).before 6 t d)) ∗ (∃ d, owns (c : Thread nD τ) (win1_7.stage (cfg1.slots t 7)) fullShare ((dat1 V c).before 7 t d)) ∗ (∃ d, owns (c : Thread nD τ) (win1_8.stage (cfg1.slots t 8)) fullShare ((dat1 V c).before 8 t d)) ∗ (∃ d, owns (c : Thread nD τ) (win1_9.stage (cfg1.slots t 9)) fullShare ((dat1 V c).before 9 t d)))
/-- What it leaves. -/
def post1 (c : Dev nD) (t : Fin cfg1.N) : sProp 𝕄 :=
  iprop((dat1 V c).Φ t.succ ∗ (dat1 V c).owesAt () t.succ ∗ owns (c : Thread nD τ) (win1_0.stage (cfg1.slots t 0)) fullShare ((dat1 V c).after 0 t) ∗ owns (c : Thread nD τ) (win1_1.stage (cfg1.slots t 1)) fullShare ((dat1 V c).after 1 t) ∗ owns (c : Thread nD τ) (win1_2.stage (cfg1.slots t 2)) fullShare ((dat1 V c).after 2 t) ∗ owns (c : Thread nD τ) (win1_3.stage (cfg1.slots t 3)) fullShare ((dat1 V c).after 3 t) ∗ owns (c : Thread nD τ) (win1_4.stage (cfg1.slots t 4)) fullShare ((dat1 V c).after 4 t) ∗ owns (c : Thread nD τ) (win1_5.stage (cfg1.slots t 5)) fullShare ((dat1 V c).after 5 t) ∗ owns (c : Thread nD τ) (win1_6.stage (cfg1.slots t 6)) fullShare ((dat1 V c).after 6 t) ∗ owns (c : Thread nD τ) (win1_7.stage (cfg1.slots t 7)) fullShare ((dat1 V c).after 7 t) ∗ owns (c : Thread nD τ) (win1_8.stage (cfg1.slots t 8)) fullShare ((dat1 V c).after 8 t) ∗ owns (c : Thread nD τ) (win1_9.stage (cfg1.slots t 9)) fullShare ((dat1 V c).after 9 t))

set_option maxHeartbeats 1000000 in
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  rw [show (dat1 V c).Φ t.castSucc = Phi1 c from rfl]
  unfold Phi1
  rw [scopedRest1_eq]
  have hs0 : (iprop(∃ d, owns (c : Thread nD τ) (Memref.whole cc1_scratch0) fullShare d) : sProp 𝕄) = iprop(∃ f : Buf (Elt F) ((c : Thread nD τ).loc cc1_scratch0), ((c : Thread nD τ).loc cc1_scratch0) ↦{fullShare} f) := by simp only [owns_whole]
  have hs1 : (iprop(∃ d, owns (c : Thread nD τ) (Memref.whole cc1_scratch1) fullShare d) : sProp 𝕄) = iprop(∃ f : Buf (Elt F) ((c : Thread nD τ).loc cc1_scratch1), ((c : Thread nD τ).loc cc1_scratch1) ↦{fullShare} f) := by simp only [owns_whole]
  have hs2 : (iprop(∃ d, owns (c : Thread nD τ) (Memref.whole cc1_scratch2) fullShare d) : sProp 𝕄) = iprop(∃ f : Buf (Elt F) ((c : Thread nD τ).loc cc1_scratch2), ((c : Thread nD τ).loc cc1_scratch2) ↦{fullShare} f) := by simp only [owns_whole]
  rw [← hs0, ← hs1, ← hs2]
  by_cases h0 : t.val % 12 = 0
  · rw [outs1_first V c t h0]
    unfold gruAt
    iintro ⟨⟨A0, A1, A2, A3, A4, A5, A6, A7, A8, A9, A10, A11, A12, A13, A14, A15, A16, HS0, HS1, HS2, A17, A18⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (gru_first c (grid1.coords t) _ _ _ _ _ _ _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    iintro ⟨H0, H1, H2, H3, H4, H5, H6, H7, H8, H9, HS0, HS1, HS2⟩
    isplitl [A0 A1 A2 A3 A4 A5 A6 A7 A8 A9 A10 A11 A12 A13 A14 A15 A16 HS0 HS1 HS2 A17 A18]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      isplitl [A14]; · iexact A14
      isplitl [A15]; · iexact A15
      isplitl [A16]; · iexact A16
      isplitl [HS0]; · iexact HS0
      isplitl [HS1]; · iexact HS1
      isplitl [HS2]; · iexact HS2
      isplitl [A17]; · iexact A17
      iexact A18
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [outs1_later V c t h0]
    simp only [before1_9 V c t h0]
    unfold gruAt
    iintro ⟨⟨A0, A1, A2, A3, A4, A5, A6, A7, A8, A9, A10, A11, A12, A13, A14, A15, A16, HS0, HS1, HS2, A17, A18⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (gru_later c (grid1.coords t) _ _ _ _ _ _ _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    iintro ⟨H0, H1, H2, H3, H4, H5, H6, H7, H8, H9, HS0, HS1, HS2⟩
    isplitl [A0 A1 A2 A3 A4 A5 A6 A7 A8 A9 A10 A11 A12 A13 A14 A15 A16 HS0 HS1 HS2 A17 A18]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      isplitl [A14]; · iexact A14
      isplitl [A15]; · iexact A15
      isplitl [A16]; · iexact A16
      isplitl [HS0]; · iexact HS0
      isplitl [HS1]; · iexact HS1
      isplitl [HS2]; · iexact HS2
      isplitl [A17]; · iexact A17
      iexact A18
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem defs₀_row1 (t : Fin cfg1.N) : defs₀ (F := F) .tc cfg1.body (cfg1.bodyArgs t (cfg1.slots t)) = bodyAt1 t := by
  unfold defs₀; rw [Defs.onTc_tc]

theorem obligation1 (c : Dev nD) : BodyObligation (dat1 V c) (defs₀ (F := F)) Variants.none () Set.univ := fun t => by
  rw [bigSep_W1, bigSep_W1, defs₀_row1]
  exact triple_restated (sound1 V c t) rfl .rfl fun _ => .rfl

end Cert.KernelIdeal.Own

end
-- ==== Proof.Run.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.ExtRegion
public import proofs.«01_k».proof.Proof.GruRegion
public import proofs.«01_k».proof.Proof.Gen.KernelIdeal.Regions
public import Idealize.ShloMosaic.Lib.Pipeline.RegionsLoop
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.Pipeline.ValueKit.Basic
public import Idealize.ShloMosaic.Lib.Pipeline.ReadBack
public import Idealize.ShloMosaic.Lib.Pointwise

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.View
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The unscoped buffers when the extraction starts. -/
def Va (c : Dev nD) (b : Ref sig .tc) : Buf (Elt F) ((c : Thread nD τ).loc b) := V1 m c b
/-- What the extraction leaves in its result's array. -/
def resA (c : Dev nD) : Buf (Elt F) ((c : Thread nD τ).loc main_v9) := (dat0 (Va m) c).arrAt 13 cfg0.N
/-- The unscoped buffers after it. -/
def Wa (c : Dev nD) : Valuation τ sig (Elt F) := Function.update (V1 m c) main_v9 (resA m c)
/-- The unscoped buffers when the recurrence starts. -/
def Vb (c : Dev nD) (b : Ref sig .tc) : Buf (Elt F) ((c : Thread nD τ).loc b) := StableHlo.after hostOps1 (Wa m c) b
/-- What the recurrence leaves in its result's array. -/
def resB (c : Dev nD) : Buf (Elt F) ((c : Thread nD τ).loc main_v19) := (dat1 (Vb m) c).arrAt 9 cfg1.N
/-- The unscoped buffers after it. -/
def Wb (c : Dev nD) : Valuation τ sig (Elt F) := Function.update (StableHlo.after hostOps1 (Wa m c)) main_v19 (resB m c)
/-- What the two calls leave, item by item. -/
def left : Outs (F := F) := fun n r c => match n with
  | 2 => Wa m c r
  | _ => Wb m c r

theorem V2_left (c : Dev nD) : V2 m (left m) c = Wa m c := by
  unfold V2 left Wa
  exact congrArg _ (Function.update_self _ _ _)
theorem V3_left (c : Dev nD) : V3 m (left m) c = StableHlo.after hostOps1 (Wa m c) := by
  unfold V3; rw [V2_left]
theorem V4_left (c : Dev nD) : V4 m (left m) c = Wb m c := by
  unfold V4; rw [V3_left]; unfold left Wb
  exact congrArg _ (Function.update_self _ _ _)

/-- Both calls' proof data. -/
def dats : (p : Fin 2) → (c : Dev nD) → Dat τ (Elt F) Unit ℕ (UR sig nD τ) ℕ (cfgs p) c
  | ⟨0, _⟩ => fun c => dat0 (Va m) c
  | ⟨1, _⟩ => fun c => dat1 (Vb m) c

/-- No level is assigned. -/
abbrev L₀ : GSem nD τ sig → Finset Unit := fun _ => ∅
abbrev lv₀ : GSem nD τ sig → Unit → ℕ := fun _ _ => 0

/-- What rides along: the core owes nothing. -/
def ride (c : Dev nD) : sProp 𝕄 := iprop(∃ W, owes (c : Thread nD τ) (0 : CellTallies nD τ sig Unit) W)

theorem Wa_ne (c : Dev nD) (b : Ref sig .tc) (h : b ≠ main_v9) : Wa m c b = Va m c b := by
  unfold Wa Va
  exact Function.update_of_ne (StableHlo.devRef_ne_of_ne h) _ _
theorem Wa_out (c : Dev nD) : Wa m c main_v9 = resA m c := by
  unfold Wa; exact Function.update_self _ _ _

theorem arrs0_0 (c : Dev nD) : (dat0 (Va m) c).arrAt 0 cfg0.N = Wa m c (Pipeline.arrRef spec0 0) := by
  rw [Dat.arrAt_in _ 0 rfl, dat0_A]; exact (Wa_ne m c main_arg1 (by decide)).symm
theorem arrs0_1 (c : Dev nD) : (dat0 (Va m) c).arrAt 1 cfg0.N = Wa m c (Pipeline.arrRef spec0 1) := by
  rw [Dat.arrAt_in _ 1 rfl, dat0_A]; exact (Wa_ne m c main_arg0 (by decide)).symm
theorem arrs0_2 (c : Dev nD) : (dat0 (Va m) c).arrAt 2 cfg0.N = Wa m c (Pipeline.arrRef spec0 2) := by
  rw [Dat.arrAt_in _ 2 rfl, dat0_A]; exact (Wa_ne m c main_v0 (by decide)).symm
theorem arrs0_3 (c : Dev nD) : (dat0 (Va m) c).arrAt 3 cfg0.N = Wa m c (Pipeline.arrRef spec0 3) := by
  rw [Dat.arrAt_in _ 3 rfl, dat0_A]; exact (Wa_ne m c main_v1 (by decide)).symm
theorem arrs0_4 (c : Dev nD) : (dat0 (Va m) c).arrAt 4 cfg0.N = Wa m c (Pipeline.arrRef spec0 4) := by
  rw [Dat.arrAt_in _ 4 rfl, dat0_A]; exact (Wa_ne m c main_arg9 (by decide)).symm
theorem arrs0_5 (c : Dev nD) : (dat0 (Va m) c).arrAt 5 cfg0.N = Wa m c (Pipeline.arrRef spec0 5) := by
  rw [Dat.arrAt_in _ 5 rfl, dat0_A]; exact (Wa_ne m c main_v2 (by decide)).symm
theorem arrs0_6 (c : Dev nD) : (dat0 (Va m) c).arrAt 6 cfg0.N = Wa m c (Pipeline.arrRef spec0 6) := by
  rw [Dat.arrAt_in _ 6 rfl, dat0_A]; exact (Wa_ne m c main_v3 (by decide)).symm
theorem arrs0_7 (c : Dev nD) : (dat0 (Va m) c).arrAt 7 cfg0.N = Wa m c (Pipeline.arrRef spec0 7) := by
  rw [Dat.arrAt_in _ 7 rfl, dat0_A]; exact (Wa_ne m c main_v4 (by decide)).symm
theorem arrs0_8 (c : Dev nD) : (dat0 (Va m) c).arrAt 8 cfg0.N = Wa m c (Pipeline.arrRef spec0 8) := by
  rw [Dat.arrAt_in _ 8 rfl, dat0_A]; exact (Wa_ne m c main_v5 (by decide)).symm
theorem arrs0_9 (c : Dev nD) : (dat0 (Va m) c).arrAt 9 cfg0.N = Wa m c (Pipeline.arrRef spec0 9) := by
  rw [Dat.arrAt_in _ 9 rfl, dat0_A]; exact (Wa_ne m c main_arg14 (by decide)).symm
theorem arrs0_10 (c : Dev nD) : (dat0 (Va m) c).arrAt 10 cfg0.N = Wa m c (Pipeline.arrRef spec0 10) := by
  rw [Dat.arrAt_in _ 10 rfl, dat0_A]; exact (Wa_ne m c main_arg15 (by decide)).symm
theorem arrs0_11 (c : Dev nD) : (dat0 (Va m) c).arrAt 11 cfg0.N = Wa m c (Pipeline.arrRef spec0 11) := by
  rw [Dat.arrAt_in _ 11 rfl, dat0_A]; exact (Wa_ne m c main_v7 (by decide)).symm
theorem arrs0_12 (c : Dev nD) : (dat0 (Va m) c).arrAt 12 cfg0.N = Wa m c (Pipeline.arrRef spec0 12) := by
  rw [Dat.arrAt_in _ 12 rfl, dat0_A]; exact (Wa_ne m c main_v8 (by decide)).symm
theorem arrs0_13 (c : Dev nD) : (dat0 (Va m) c).arrAt 13 cfg0.N = Wa m c (Pipeline.arrRef spec0 13) := by
  exact (Wa_out m c).symm
theorem arrs0 (c : Dev nD) : ∀ w : Fin cfg0.W, (dat0 (Va m) c).arrAt w cfg0.N = Wa m c (Pipeline.arrRef spec0 w)
  | 0 => arrs0_0 m c
  | 1 => arrs0_1 m c
  | 2 => arrs0_2 m c
  | 3 => arrs0_3 m c
  | 4 => arrs0_4 m c
  | 5 => arrs0_5 m c
  | 6 => arrs0_6 m c
  | 7 => arrs0_7 m c
  | 8 => arrs0_8 m c
  | 9 => arrs0_9 m c
  | 10 => arrs0_10 m c
  | 11 => arrs0_11 m c
  | 12 => arrs0_12 m c
  | 13 => arrs0_13 m c

set_option maxHeartbeats 2000000 in
set_option backward.isDefEq.respectTransparency.types false in
/-- Call 0 as a region of the run. -/
def reg0 : Pipeline.RegionSeg (pcfgs (F := F)) adm (dats m) () defs₀ Variants.none L₀ lv₀ 0 where
  win := launch0.win.to₀
  block_pos := launch0.block_pos
  stage_whole := launch0.stage_whole
  K := PEmpty
  osem k := k.elim
  ho := Pipeline.OwnSemFacts.none _
  hbody c := (obligation0 (Va m) c).loose
  hwaits := Pipeline.hwaits_of_owed_zero _ _ _ _ L₀ lv₀ 0 fun _ _ => rfl
  pre c := iprop(unscopedBufs c (Va m c) ∗ ride c)
  post c := iprop(unscopedBufs c (fun b => Wa m c b) ∗ ride c)
  X _ := BI.emp
  Y _ := BI.emp
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (dats m) launch0.win launch0.arr_whole c
      ((dats m 0 c).share_full fun _ => rfl) (Va m c) fun _ => rfl
    unfold ride
    iintro ⟨⟨Hub, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩
      iexists W
      isplitr; · ipureintro; exact fun _ _ => Or.inl trivial
      iexact HO
    isplitr; · iempintro
    iexact Hrest
  hin c := by
    rw [show (dats m 0 c).Φ 0 = Phi0 (Va m) c 0 from rfl, ← scopedRest0_owned]
    iintro ⟨-, -, Hr⟩
    iexact Hr
  hout c := by
    have hf : Phi0 (Va m) c (24 + 1) ⊢ (Pipeline.scopedRest (Ix := Unit) (Name := ℕ) (U := UR sig nD τ) (Lvl := ℕ) (Val := Elt F) spec0 c : sProp 𝕄) :=
      (Phi0_forget (Va m) c 24).trans (by rw [← scopedRest0_owned])
    rw [Pipeline.ownSems0_none, show (dats m 0 c).Φ (Fin.last _) = Phi0 (Va m) c (24 + 1) from rfl]
    iintro Hr
    isplitr; · iempintro
    isplitr; · iempintro
    ihave H := hf $$ Hr
    iexact H
  hexit c := by
    have hjoin := Pipeline.unscopedBufs_of_arrays (p := 0) (pcfgs (F := F)) adm (Ix := Unit) (Name := ℕ) (U := UR sig nD τ) (Lvl := ℕ)
      launch0.win launch0.arr_whole c (dats m) ((dats m 0 c).share_full fun _ => rfl) (Va m c) (fun b => Wa m c b) ((dats m 0 c).arrAt · cfg0.N)
      (arrs0 m c)
      (fun b hb => Wa_ne m c b fun h => hb (h ▸ Finset.mem_image.mpr ⟨13, Finset.mem_univ _, rfl⟩))
    iintro ⟨Ha, HO, -, Hrest⟩
    imodintro
    isplitl [Ha Hrest]
    · iapply hjoin
      isplitl [Ha] <;> iassumption
    unfold ride Pipeline.Dat.owesAt Pipeline.owesWithin
    icases HO with ⟨%W, -, HO⟩
    iexists W
    iexact HO

theorem Wb_ne (c : Dev nD) (b : Ref sig .tc) (h : b ≠ main_v19) : Wb m c b = Vb m c b := by
  unfold Wb Vb
  exact Function.update_of_ne (StableHlo.devRef_ne_of_ne h) _ _
theorem Wb_out (c : Dev nD) : Wb m c main_v19 = resB m c := by
  unfold Wb; exact Function.update_self _ _ _

theorem arrs1_0 (c : Dev nD) : (dat1 (Vb m) c).arrAt 0 cfg1.N = Wb m c (Pipeline.arrRef spec1 0) := by
  rw [Dat.arrAt_in _ 0 rfl, dat1_A]; exact (Wb_ne m c main_v10 (by decide)).symm
theorem arrs1_1 (c : Dev nD) : (dat1 (Vb m) c).arrAt 1 cfg1.N = Wb m c (Pipeline.arrRef spec1 1) := by
  rw [Dat.arrAt_in _ 1 rfl, dat1_A]; exact (Wb_ne m c main_v9 (by decide)).symm
theorem arrs1_2 (c : Dev nD) : (dat1 (Vb m) c).arrAt 2 cfg1.N = Wb m c (Pipeline.arrRef spec1 2) := by
  rw [Dat.arrAt_in _ 2 rfl, dat1_A]; exact (Wb_ne m c main_v11 (by decide)).symm
theorem arrs1_3 (c : Dev nD) : (dat1 (Vb m) c).arrAt 3 cfg1.N = Wb m c (Pipeline.arrRef spec1 3) := by
  rw [Dat.arrAt_in _ 3 rfl, dat1_A]; exact (Wb_ne m c main_v12 (by decide)).symm
theorem arrs1_4 (c : Dev nD) : (dat1 (Vb m) c).arrAt 4 cfg1.N = Wb m c (Pipeline.arrRef spec1 4) := by
  rw [Dat.arrAt_in _ 4 rfl, dat1_A]; exact (Wb_ne m c main_v13 (by decide)).symm
theorem arrs1_5 (c : Dev nD) : (dat1 (Vb m) c).arrAt 5 cfg1.N = Wb m c (Pipeline.arrRef spec1 5) := by
  rw [Dat.arrAt_in _ 5 rfl, dat1_A]; exact (Wb_ne m c main_v14 (by decide)).symm
theorem arrs1_6 (c : Dev nD) : (dat1 (Vb m) c).arrAt 6 cfg1.N = Wb m c (Pipeline.arrRef spec1 6) := by
  rw [Dat.arrAt_in _ 6 rfl, dat1_A]; exact (Wb_ne m c main_v15 (by decide)).symm
theorem arrs1_7 (c : Dev nD) : (dat1 (Vb m) c).arrAt 7 cfg1.N = Wb m c (Pipeline.arrRef spec1 7) := by
  rw [Dat.arrAt_in _ 7 rfl, dat1_A]; exact (Wb_ne m c main_v16 (by decide)).symm
theorem arrs1_8 (c : Dev nD) : (dat1 (Vb m) c).arrAt 8 cfg1.N = Wb m c (Pipeline.arrRef spec1 8) := by
  rw [Dat.arrAt_in _ 8 rfl, dat1_A]; exact (Wb_ne m c main_v18 (by decide)).symm
theorem arrs1_9 (c : Dev nD) : (dat1 (Vb m) c).arrAt 9 cfg1.N = Wb m c (Pipeline.arrRef spec1 9) := by
  exact (Wb_out m c).symm
theorem arrs1 (c : Dev nD) : ∀ w : Fin cfg1.W, (dat1 (Vb m) c).arrAt w cfg1.N = Wb m c (Pipeline.arrRef spec1 w)
  | 0 => arrs1_0 m c
  | 1 => arrs1_1 m c
  | 2 => arrs1_2 m c
  | 3 => arrs1_3 m c
  | 4 => arrs1_4 m c
  | 5 => arrs1_5 m c
  | 6 => arrs1_6 m c
  | 7 => arrs1_7 m c
  | 8 => arrs1_8 m c
  | 9 => arrs1_9 m c

set_option maxHeartbeats 2000000 in
set_option backward.isDefEq.respectTransparency.types false in
/-- Call 1 as a region of the run. -/
def reg1 : Pipeline.RegionSeg (pcfgs (F := F)) adm (dats m) () defs₀ Variants.none L₀ lv₀ 1 where
  win := launch1.win.to₀
  block_pos := launch1.block_pos
  stage_whole := launch1.stage_whole
  K := PEmpty
  osem k := k.elim
  ho := Pipeline.OwnSemFacts.none _
  hbody c := (obligation1 (Vb m) c).loose
  hwaits := Pipeline.hwaits_of_owed_zero _ _ _ _ L₀ lv₀ 1 fun _ _ => rfl
  pre c := iprop(unscopedBufs c (Vb m c) ∗ ride c)
  post c := iprop(unscopedBufs c (fun b => Wb m c b) ∗ ride c)
  X _ := BI.emp
  Y _ := BI.emp
  Z c := Pipeline.unscopedRest (Ix := Unit) (Name := ℕ) (U := UR sig nD τ) (Lvl := ℕ) spec1 c (Vb m c)
  hentry c := by
    rw [Pipeline.ownSems0_none]
    have hsplit := Pipeline.arrays_of_unscopedBufs (p := 1) (pcfgs (F := F)) adm (dats m) launch1.win launch1.arr_whole c
      ((dats m 1 c).share_full fun _ => rfl) (Vb m c) fun _ => rfl
    unfold ride
    iintro ⟨⟨Hub, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩
      iexists W
      isplitr; · ipureintro; exact fun _ _ => Or.inl trivial
      iexact HO
    isplitr; · iempintro
    iexact Hrest
  hin c := by
    rw [show (dats m 1 c).Φ 0 = Phi1 c from rfl]
    iintro ⟨-, -, Hr⟩
    iexact Hr
  hout c := by
    rw [Pipeline.ownSems0_none, show (dats m 1 c).Φ (Fin.last _) = Phi1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (dats m) ((dats m 1 c).share_full fun _ => rfl) (Vb m c) (fun b => Wb m c b) ((dats m 1 c).arrAt · cfg1.N)
      (arrs1 m c)
      (fun b hb => Wb_ne m c b fun h => hb (h ▸ Finset.mem_image.mpr ⟨9, Finset.mem_univ _, rfl⟩))
    iintro ⟨Ha, HO, -, Hrest⟩
    imodintro
    isplitl [Ha Hrest]
    · iapply hjoin
      isplitl [Ha] <;> iassumption
    unfold ride Pipeline.Dat.owesAt Pipeline.owesWithin
    icases HO with ⟨%W, -, HO⟩
    iexists W
    iexact HO

set_option backward.isDefEq.respectTransparency.types false in
/-- Every execution of the program ends, with each argument as launched, the result at the last valuation and every counter at zero. -/
theorem run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_v20) = V5 m (left m) c main_v20) ∧ r.2.sem = fun _ => 0) := by
  refine Pipeline.θ_run_regions_kit_dev_sems (pcfgs (F := F)) adm (dats m) () cellOf_inj (emb₁ (A := UR sig nD τ)) defs₀ Variants.none L₀ lv₀ m ρ main
    (segs m (left m) Variants.none L₀ lv₀ (fun _ c => ride c) () (dats m) (reg0 m) (reg1 m))
    (fun c Q => by
      rewrite [main_chain c, Pipeline.Seg.run_eq_chain,
        show (segs m (left m) Variants.none L₀ lv₀ (fun _ c => ride c) () (dats m) (reg0 m) (reg1 m) c).map Pipeline.Seg.prog = [StableHlo.seq hostOps0,
          Prog.lift (.customCall (Pipeline.entry 0) ()), StableHlo.seq hostOps1, Prog.lift (.customCall (Pipeline.entry 1) ()), StableHlo.seq hostOps2] from rfl]
      dsimp (config := { failIfUnchanged := false }) only
      exact .rfl)
    (fun c => by simp only [segs, Pipeline.Seg.pipes_host, Pipeline.Seg.pipes_region, Pipeline.Seg.pipes_nil]; decide)
    (fun _ => 0) (fun _ _ => rfl) (fun _ => iprop(emp)) (initOf (Pipeline.cells cfgs cellOf_inj) (Pipeline.launchToks cfgs cellOf_inj)) ?_
    (T₀ := fun c => iprop(StableHlo.held (c : Thread nD τ) (Pipeline.ucRefs τ sig) (V0 m c) ∗ ride c))
    (Tₙ := fun c => StableHlo.held (c : Thread nD τ) (Pipeline.ucRefs τ sig) (V5 m (left m) c))
    (hch := fun c => ⟨.rfl, ?_, ?_, ?_, ?_, sep_mono .rfl .rfl⟩)
    (hinit := ?_)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16)
      ∧ s.mem ((c.tc : Thread nD τ).loc main_arg17) = m ((c.tc : Thread nD τ).loc main_arg17)
      ∧ s.mem ((c.tc : Thread nD τ).loc main_v20) = V5 m (left m) c main_v20)
    (hfin := fun c s' => ?_) (hQ := fun _ h hz => ⟨h, funext fun g => hz g (.inr (regions_no_unscoped g.2))⟩)
  · rw [ownU_emb₁]
    iintro Hu
    imodintro
    isplitl [Hu]; · iexact Hu
    iapply (show (BI.emp : sProp 𝕄) ⊢ bigSep Finset.univ (fun _ : Dev nD => (BI.emp : sProp 𝕄)) from by rw [BI.bigSep_emp_const])
    iempintro
  · refine sep_mono ?_ .rfl
    show StableHlo.held (c : Thread nD τ) (Pipeline.ucRefs τ sig) (V1 m c) ⊢ _
    rw [← Pipeline.unscopedBufs_held (Ix := Unit) (Name := ℕ) (U := UR sig nD τ) (Lvl := ℕ) c (V1 m c)]
    exact BI.Entails.refl _
  · refine sep_mono ?_ .rfl
    show _ ⊢ StableHlo.held (c : Thread nD τ) (Pipeline.ucRefs τ sig) (V2 m (left m) c)
    rw [V2_left, ← Pipeline.unscopedBufs_held (Ix := Unit) (Name := ℕ) (U := UR sig nD τ) (Lvl := ℕ) c (Wa m c)]
  · refine sep_mono ?_ .rfl
    show StableHlo.held (c : Thread nD τ) (Pipeline.ucRefs τ sig) (V3 m (left m) c) ⊢ _
    rw [V3_left, ← Pipeline.unscopedBufs_held (Ix := Unit) (Name := ℕ) (U := UR sig nD τ) (Lvl := ℕ) c (StableHlo.after hostOps1 (Wa m c))]
    exact BI.Entails.refl _
  · refine sep_mono ?_ .rfl
    show _ ⊢ StableHlo.held (c : Thread nD τ) (Pipeline.ucRefs τ sig) (V4 m (left m) c)
    rw [V4_left, ← Pipeline.unscopedBufs_held (Ix := Unit) (Name := ℕ) (U := UR sig nD τ) (Lvl := ℕ) c (Wb m c)]
  · refine Pipeline.initEach L₀ lv₀ fun c => ?_
    rw [show unscopedBufs c (fun b => m ((c : Thread nD τ).loc b)) = StableHlo.held (c : Thread nD τ) (Pipeline.ucRefs τ sig) (V0 m c) from Pipeline.unscopedBufs_held c (V0 m c)]
    unfold ride
    iintro ⟨⟨Hh, -, HO, -, -, -⟩, -⟩
    imodintro
    isplitl [Hh]; · iexact Hh
    iexists ∅
    iexact HO
  · unfold StableHlo.held
    iintro ⟨Hh, HSI⟩
    ihave Hr := (pointsTo_read_all (Pipeline.ucRefs τ sig) (fun b => ((c : Thread nD τ).1, b)) (V5 m (left m) c) s') $$ [Hh HSI]
    · isplitl [Hh] <;> iassumption
    icases Hr with ⟨%h, HSI⟩
    imodintro
    isplitr
    · ipureintro
      have hr : ∀ r : Ref sig .tc, ¬ (Proc.devRef (τ := τ) .tc r).isScoped = true → s'.mem.mem ((c.tc : Thread nD τ).loc r) = V5 m (left m) c r :=
        fun r hs => h (Proc.devRef .tc r) (Finset.mem_filter.mpr ⟨StableHlo.devRef_mem_tcRefs r, by simpa using hs⟩)
      exact ⟨(hr main_arg0 (by decide)).trans (V5_main_arg0 m (left m) c), (hr main_arg1 (by decide)).trans (V5_main_arg1 m (left m) c), (hr main_arg2 (by decide)).trans (V5_main_arg2 m (left m) c), (hr main_arg3 (by decide)).trans (V5_main_arg3 m (left m) c), (hr main_arg4 (by decide)).trans (V5_main_arg4 m (left m) c), (hr main_arg5 (by decide)).trans (V5_main_arg5 m (left m) c), (hr main_arg6 (by decide)).trans (V5_main_arg6 m (left m) c), (hr main_arg7 (by decide)).trans (V5_main_arg7 m (left m) c), (hr main_arg8 (by decide)).trans (V5_main_arg8 m (left m) c), (hr main_arg9 (by decide)).trans (V5_main_arg9 m (left m) c), (hr main_arg10 (by decide)).trans (V5_main_arg10 m (left m) c), (hr main_arg11 (by decide)).trans (V5_main_arg11 m (left m) c), (hr main_arg12 (by decide)).trans (V5_main_arg12 m (left m) c), (hr main_arg13 (by decide)).trans (V5_main_arg13 m (left m) c), (hr main_arg14 (by decide)).trans (V5_main_arg14 m (left m) c), (hr main_arg15 (by decide)).trans (V5_main_arg15 m (left m) c), (hr main_arg16 (by decide)).trans (V5_main_arg16 m (left m) c), (hr main_arg17 (by decide)).trans (V5_main_arg17 m (left m) c), hr main_v20 (by decide)⟩
    iexact HSI

end Cert.KernelIdeal.Own

end
-- ==== Proof.ArrVal.lean ====
module

public import proofs.«01_k».proof.Proof.Run
public import Idealize.ShloMosaic.Lib.Pipeline.ValueKit.Geometry
public import Idealize.ShloMosaic.Lib.StableHlo.ReadAt
public import Idealize.ShloMosaic.Lib.Pointwise

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : ∀ l : Loc nD τ sig, Buf (Elt F) l)
variable (V : (c : Dev nD) → (b : Ref sig .tc) → Buf (Elt F) ((c : Thread nD τ).loc b))

/-- The recurrence's window 0 is its whole array. -/
theorem iblk1_0_eq (c : Dev nD) (t : Fin cfg1.N) : iblk1 V c 0 t = V c main_v10 := by
  have e : ∀ t : Fin cfg1.N, win1_0.index t = ![0, 0, 0] := (by decide +kernel : ∀ t : Fin grid1.N, _)
  funext y
  blk_ext [iblk1, e]
/-- The recurrence's window 1 is its whole array. -/
theorem iblk1_1_eq (c : Dev nD) (t : Fin cfg1.N) : iblk1 V c 1 t = V c main_v9 := by
  have e : ∀ t : Fin cfg1.N, win1_1.index t = ![0, 0] := (by decide +kernel : ∀ t : Fin grid1.N, _)
  funext y
  blk_ext [iblk1, e]
/-- The recurrence's window 2 is its whole array. -/
theorem iblk1_2_eq (c : Dev nD) (t : Fin cfg1.N) : iblk1 V c 2 t = V c main_v11 := by
  have e : ∀ t : Fin cfg1.N, win1_2.index t = ![0, 0] := (by decide +kernel : ∀ t : Fin grid1.N, _)
  funext y
  blk_ext [iblk1, e]
/-- The recurrence's window 3 is its whole array. -/
theorem iblk1_3_eq (c : Dev nD) (t : Fin cfg1.N) : iblk1 V c 3 t = V c main_v12 := by
  have e : ∀ t : Fin cfg1.N, win1_3.index t = ![0, 0] := (by decide +kernel : ∀ t : Fin grid1.N, _)
  funext y
  blk_ext [iblk1, e]
/-- The recurrence's window 4 is its whole array. -/
theorem iblk1_4_eq (c : Dev nD) (t : Fin cfg1.N) : iblk1 V c 4 t = V c main_v13 := by
  have e : ∀ t : Fin cfg1.N, win1_4.index t = ![0, 0] := (by decide +kernel : ∀ t : Fin grid1.N, _)
  funext y
  blk_ext [iblk1, e]
/-- The recurrence's window 5 is its whole array. -/
theorem iblk1_5_eq (c : Dev nD) (t : Fin cfg1.N) : iblk1 V c 5 t = V c main_v14 := by
  have e : ∀ t : Fin cfg1.N, win1_5.index t = ![0, 0] := (by decide +kernel : ∀ t : Fin grid1.N, _)
  funext y
  blk_ext [iblk1, e]
/-- The recurrence's window 6 is its whole array. -/
theorem iblk1_6_eq (c : Dev nD) (t : Fin cfg1.N) : iblk1 V c 6 t = V c main_v15 := by
  have e : ∀ t : Fin cfg1.N, win1_6.index t = ![0, 0] := (by decide +kernel : ∀ t : Fin grid1.N, _)
  funext y
  blk_ext [iblk1, e]
/-- The recurrence's window 7 is its whole array. -/
theorem iblk1_7_eq (c : Dev nD) (t : Fin cfg1.N) : iblk1 V c 7 t = V c main_v16 := by
  have e : ∀ t : Fin cfg1.N, win1_7.index t = ![0, 0] := (by decide +kernel : ∀ t : Fin grid1.N, _)
  funext y
  blk_ext [iblk1, e]
/-- The recurrence's window 8 is its whole array. -/
theorem iblk1_8_eq (c : Dev nD) (t : Fin cfg1.N) : iblk1 V c 8 t = V c main_v18 := by
  have e : ∀ t : Fin cfg1.N, win1_8.index t = ![0, 0] := (by decide +kernel : ∀ t : Fin grid1.N, _)
  funext y
  blk_ext [iblk1, e]
/-- The extraction's window 1 is its whole array. -/
theorem iblk0_1_eq (c : Dev nD) (t : Fin cfg0.N) : iblk0 V c 1 t = V c main_arg0 := by
  have e : ∀ t : Fin cfg0.N, win0_1.index t = ![0, 0] := (by decide +kernel : ∀ t : Fin grid0.N, _)
  funext y
  blk_ext [iblk0, e]
/-- The extraction's window 2 is its whole array. -/
theorem iblk0_2_eq (c : Dev nD) (t : Fin cfg0.N) : iblk0 V c 2 t = V c main_v0 := by
  have e : ∀ t : Fin cfg0.N, win0_2.index t = ![0, 0] := (by decide +kernel : ∀ t : Fin grid0.N, _)
  funext y
  blk_ext [iblk0, e]
/-- The extraction's window 3 is its whole array. -/
theorem iblk0_3_eq (c : Dev nD) (t : Fin cfg0.N) : iblk0 V c 3 t = V c main_v1 := by
  have e : ∀ t : Fin cfg0.N, win0_3.index t = ![0, 0] := (by decide +kernel : ∀ t : Fin grid0.N, _)
  funext y
  blk_ext [iblk0, e]
/-- The extraction's window 4 is its whole array. -/
theorem iblk0_4_eq (c : Dev nD) (t : Fin cfg0.N) : iblk0 V c 4 t = V c main_arg9 := by
  have e : ∀ t : Fin cfg0.N, win0_4.index t = ![0] := (by decide +kernel : ∀ t : Fin grid0.N, _)
  funext y
  blk_ext [iblk0, e]
/-- The extraction's window 5 is its whole array. -/
theorem iblk0_5_eq (c : Dev nD) (t : Fin cfg0.N) : iblk0 V c 5 t = V c main_v2 := by
  have e : ∀ t : Fin cfg0.N, win0_5.index t = ![0, 0] := (by decide +kernel : ∀ t : Fin grid0.N, _)
  funext y
  blk_ext [iblk0, e]
/-- The extraction's window 6 is its whole array. -/
theorem iblk0_6_eq (c : Dev nD) (t : Fin cfg0.N) : iblk0 V c 6 t = V c main_v3 := by
  have e : ∀ t : Fin cfg0.N, win0_6.index t = ![0, 0] := (by decide +kernel : ∀ t : Fin grid0.N, _)
  funext y
  blk_ext [iblk0, e]
/-- The extraction's window 7 is its whole array. -/
theorem iblk0_7_eq (c : Dev nD) (t : Fin cfg0.N) : iblk0 V c 7 t = V c main_v4 := by
  have e : ∀ t : Fin cfg0.N, win0_7.index t = ![0, 0] := (by decide +kernel : ∀ t : Fin grid0.N, _)
  funext y
  blk_ext [iblk0, e]
/-- The extraction's window 8 is its whole array. -/
theorem iblk0_8_eq (c : Dev nD) (t : Fin cfg0.N) : iblk0 V c 8 t = V c main_v5 := by
  have e : ∀ t : Fin cfg0.N, win0_8.index t = ![0, 0] := (by decide +kernel : ∀ t : Fin grid0.N, _)
  funext y
  blk_ext [iblk0, e]
/-- The extraction's window 9 is its whole array. -/
theorem iblk0_9_eq (c : Dev nD) (t : Fin cfg0.N) : iblk0 V c 9 t = V c main_arg14 := by
  have e : ∀ t : Fin cfg0.N, win0_9.index t = ![0, 0] := (by decide +kernel : ∀ t : Fin grid0.N, _)
  funext y
  blk_ext [iblk0, e]
/-- The extraction's window 10 is its whole array. -/
theorem iblk0_10_eq (c : Dev nD) (t : Fin cfg0.N) : iblk0 V c 10 t = V c main_arg15 := by
  have e : ∀ t : Fin cfg0.N, win0_10.index t = ![0] := (by decide +kernel : ∀ t : Fin grid0.N, _)
  funext y
  blk_ext [iblk0, e]
/-- The extraction's window 11 is its whole array. -/
theorem iblk0_11_eq (c : Dev nD) (t : Fin cfg0.N) : iblk0 V c 11 t = V c main_v7 := by
  have e : ∀ t : Fin cfg0.N, win0_11.index t = ![0, 0] := (by decide +kernel : ∀ t : Fin grid0.N, _)
  funext y
  blk_ext [iblk0, e]
/-- The extraction's window 12 is its whole array. -/
theorem iblk0_12_eq (c : Dev nD) (t : Fin cfg0.N) : iblk0 V c 12 t = V c main_v8 := by
  have e : ∀ t : Fin cfg0.N, win0_12.index t = ![0, 0] := (by decide +kernel : ∀ t : Fin grid0.N, _)
  funext y
  blk_ext [iblk0, e]
/-- The adjacency window at point `t`: four hundred rows. -/
theorem iblk0_0_at (c : Dev nD) (t : Fin cfg0.N) (r : Fin 400) (k : Fin 10000) (n : Fin 10000) (hn : n.val = 400 * t.val + r.val) :
    iblk0 V c 0 t (ix2 r k) = V c main_arg1 (ix2 n k) := by
  have e : ∀ t : Fin cfg0.N, win0_0.index t = ![t.val, 0] := (by decide +kernel : ∀ t : Fin grid0.N, _)
  blk_ext [iblk0, e]
/-- The result of the recurrence is what the last point leaves. -/
theorem resB_eq (c : Dev nD) : resB m c = outs1 (Vb m) c 11 (by rw [show cfg1.N = 12 from N_1]; omega) := by
  unfold resB
  refine (dat1 (Vb m) c).arrAt_eq_of_after_last 9 ⟨11, by rw [show cfg1.N = 12 from N_1]; omega⟩ (by decide +kernel) _ fun j => ?_
  rw [after1_9]
  rfl
/-- The result of the extraction is what the last point leaves. -/
theorem resA_eq (c : Dev nD) : resA m c = outAt0 (Va m) c := by
  unfold resA
  refine (dat0 (Va m) c).arrAt_eq_of_after_last 13 ⟨24, by rw [show cfg0.N = 25 from N_0]; omega⟩ (by decide +kernel) _ fun j => ?_
  rw [after0_13]
  rfl
theorem Va_arg0 (c : Dev nD) : Va m c main_arg0 = m ((c : Thread nD τ).loc main_arg0) :=
  V1_of m c main_arg0 (by decide)
theorem Wa_arg0 (c : Dev nD) : Wa m c main_arg0 = m ((c : Thread nD τ).loc main_arg0) :=
  (Wa_ne m c main_arg0 (by decide)).trans (Va_arg0 m c)
theorem Va_arg1 (c : Dev nD) : Va m c main_arg1 = m ((c : Thread nD τ).loc main_arg1) :=
  V1_of m c main_arg1 (by decide)
theorem Wa_arg1 (c : Dev nD) : Wa m c main_arg1 = m ((c : Thread nD τ).loc main_arg1) :=
  (Wa_ne m c main_arg1 (by decide)).trans (Va_arg1 m c)
theorem Va_arg2 (c : Dev nD) : Va m c main_arg2 = m ((c : Thread nD τ).loc main_arg2) :=
  V1_of m c main_arg2 (by decide)
theorem Wa_arg2 (c : Dev nD) : Wa m c main_arg2 = m ((c : Thread nD τ).loc main_arg2) :=
  (Wa_ne m c main_arg2 (by decide)).trans (Va_arg2 m c)
theorem Va_arg3 (c : Dev nD) : Va m c main_arg3 = m ((c : Thread nD τ).loc main_arg3) :=
  V1_of m c main_arg3 (by decide)
theorem Wa_arg3 (c : Dev nD) : Wa m c main_arg3 = m ((c : Thread nD τ).loc main_arg3) :=
  (Wa_ne m c main_arg3 (by decide)).trans (Va_arg3 m c)
theorem Va_arg4 (c : Dev nD) : Va m c main_arg4 = m ((c : Thread nD τ).loc main_arg4) :=
  V1_of m c main_arg4 (by decide)
theorem Wa_arg4 (c : Dev nD) : Wa m c main_arg4 = m ((c : Thread nD τ).loc main_arg4) :=
  (Wa_ne m c main_arg4 (by decide)).trans (Va_arg4 m c)
theorem Va_arg5 (c : Dev nD) : Va m c main_arg5 = m ((c : Thread nD τ).loc main_arg5) :=
  V1_of m c main_arg5 (by decide)
theorem Wa_arg5 (c : Dev nD) : Wa m c main_arg5 = m ((c : Thread nD τ).loc main_arg5) :=
  (Wa_ne m c main_arg5 (by decide)).trans (Va_arg5 m c)
theorem Va_arg6 (c : Dev nD) : Va m c main_arg6 = m ((c : Thread nD τ).loc main_arg6) :=
  V1_of m c main_arg6 (by decide)
theorem Wa_arg6 (c : Dev nD) : Wa m c main_arg6 = m ((c : Thread nD τ).loc main_arg6) :=
  (Wa_ne m c main_arg6 (by decide)).trans (Va_arg6 m c)
theorem Va_arg7 (c : Dev nD) : Va m c main_arg7 = m ((c : Thread nD τ).loc main_arg7) :=
  V1_of m c main_arg7 (by decide)
theorem Wa_arg7 (c : Dev nD) : Wa m c main_arg7 = m ((c : Thread nD τ).loc main_arg7) :=
  (Wa_ne m c main_arg7 (by decide)).trans (Va_arg7 m c)
theorem Va_arg8 (c : Dev nD) : Va m c main_arg8 = m ((c : Thread nD τ).loc main_arg8) :=
  V1_of m c main_arg8 (by decide)
theorem Wa_arg8 (c : Dev nD) : Wa m c main_arg8 = m ((c : Thread nD τ).loc main_arg8) :=
  (Wa_ne m c main_arg8 (by decide)).trans (Va_arg8 m c)
theorem Va_arg9 (c : Dev nD) : Va m c main_arg9 = m ((c : Thread nD τ).loc main_arg9) :=
  V1_of m c main_arg9 (by decide)
theorem Wa_arg9 (c : Dev nD) : Wa m c main_arg9 = m ((c : Thread nD τ).loc main_arg9) :=
  (Wa_ne m c main_arg9 (by decide)).trans (Va_arg9 m c)
theorem Va_arg10 (c : Dev nD) : Va m c main_arg10 = m ((c : Thread nD τ).loc main_arg10) :=
  V1_of m c main_arg10 (by decide)
theorem Wa_arg10 (c : Dev nD) : Wa m c main_arg10 = m ((c : Thread nD τ).loc main_arg10) :=
  (Wa_ne m c main_arg10 (by decide)).trans (Va_arg10 m c)
theorem Va_arg11 (c : Dev nD) : Va m c main_arg11 = m ((c : Thread nD τ).loc main_arg11) :=
  V1_of m c main_arg11 (by decide)
theorem Wa_arg11 (c : Dev nD) : Wa m c main_arg11 = m ((c : Thread nD τ).loc main_arg11) :=
  (Wa_ne m c main_arg11 (by decide)).trans (Va_arg11 m c)
theorem Va_arg12 (c : Dev nD) : Va m c main_arg12 = m ((c : Thread nD τ).loc main_arg12) :=
  V1_of m c main_arg12 (by decide)
theorem Wa_arg12 (c : Dev nD) : Wa m c main_arg12 = m ((c : Thread nD τ).loc main_arg12) :=
  (Wa_ne m c main_arg12 (by decide)).trans (Va_arg12 m c)
theorem Va_arg13 (c : Dev nD) : Va m c main_arg13 = m ((c : Thread nD τ).loc main_arg13) :=
  V1_of m c main_arg13 (by decide)
theorem Wa_arg13 (c : Dev nD) : Wa m c main_arg13 = m ((c : Thread nD τ).loc main_arg13) :=
  (Wa_ne m c main_arg13 (by decide)).trans (Va_arg13 m c)
theorem Va_arg14 (c : Dev nD) : Va m c main_arg14 = m ((c : Thread nD τ).loc main_arg14) :=
  V1_of m c main_arg14 (by decide)
theorem Wa_arg14 (c : Dev nD) : Wa m c main_arg14 = m ((c : Thread nD τ).loc main_arg14) :=
  (Wa_ne m c main_arg14 (by decide)).trans (Va_arg14 m c)
theorem Va_arg15 (c : Dev nD) : Va m c main_arg15 = m ((c : Thread nD τ).loc main_arg15) :=
  V1_of m c main_arg15 (by decide)
theorem Wa_arg15 (c : Dev nD) : Wa m c main_arg15 = m ((c : Thread nD τ).loc main_arg15) :=
  (Wa_ne m c main_arg15 (by decide)).trans (Va_arg15 m c)
theorem Va_arg16 (c : Dev nD) : Va m c main_arg16 = m ((c : Thread nD τ).loc main_arg16) :=
  V1_of m c main_arg16 (by decide)
theorem Wa_arg16 (c : Dev nD) : Wa m c main_arg16 = m ((c : Thread nD τ).loc main_arg16) :=
  (Wa_ne m c main_arg16 (by decide)).trans (Va_arg16 m c)
theorem Va_arg17 (c : Dev nD) : Va m c main_arg17 = m ((c : Thread nD τ).loc main_arg17) :=
  V1_of m c main_arg17 (by decide)
theorem Wa_arg17 (c : Dev nD) : Wa m c main_arg17 = m ((c : Thread nD τ).loc main_arg17) :=
  (Wa_ne m c main_arg17 (by decide)).trans (Va_arg17 m c)
theorem Va_v0 (c : Dev nD) (k : Fin 128) (j : Fin 64) : Va m c main_v0 (ix2 k j) = m ((c : Thread nD τ).loc main_arg3) (ix2 j k) := by
  unfold Va V1
  after_reads_at
theorem Va_v1 (c : Dev nD) (j : Fin 64) : Va m c main_v1 (ix2 (0 : Fin 1) j) = m ((c : Thread nD τ).loc main_arg4) (ix1 j) := by
  unfold Va V1
  after_reads_at
theorem Va_v2 (c : Dev nD) (j : Fin 64) : Va m c main_v2 (ix2 (0 : Fin 1) j) = m ((c : Thread nD τ).loc main_arg7) (ix1 j) := by
  unfold Va V1
  after_reads_at
theorem Va_v3 (c : Dev nD) (j : Fin 64) : Va m c main_v3 (ix2 (0 : Fin 1) j) = m ((c : Thread nD τ).loc main_arg8) (ix1 j) := by
  unfold Va V1
  after_reads_at
theorem Va_v5 (c : Dev nD) (j : Fin 64) : Va m c main_v5 (ix2 (0 : Fin 1) j) = m ((c : Thread nD τ).loc main_arg6) (ix1 j) := by
  unfold Va V1
  after_reads_at
theorem Va_v8 (c : Dev nD) (j : Fin 64) : Va m c main_v8 (ix2 (0 : Fin 1) j) = m ((c : Thread nD τ).loc main_arg17) (ix1 j) := by
  unfold Va V1
  after_reads_at
theorem Va_v4 (c : Dev nD) (k j : Fin 64) : Va m c main_v4 (ix2 k j) = m ((c : Thread nD τ).loc main_arg5) (ix2 j k) := by
  unfold Va V1
  after_reads_at
theorem Va_v7 (c : Dev nD) (k j : Fin 64) : Va m c main_v7 (ix2 k j) = m ((c : Thread nD τ).loc main_arg16) (ix2 j (⟨64 + k.val, by omega⟩ : Fin 128)) := by
  unfold Va V1
  after_reads_at
theorem Vb_v9 (c : Dev nD) : Vb m c main_v9 = resA m c := by
  unfold Vb
  exact (StableHlo.after_of_writes_sub hostOps1 _ hostOps1_writes (by decide)).trans (Wa_out m c)
theorem Vb_v10 (c : Dev nD) (t : Fin 12) (b : Fin 4) (n : Fin 10000) : Vb m c main_v10 (ix3 t b n) = m ((c : Thread nD τ).loc main_arg2) (ix3 b t n) := by
  unfold Vb
  after_reads_at
  exact congrFun (Wa_arg2 m c) _
theorem Vb_v11 (c : Dev nD) (k : Fin 64) (q : Fin 128) : Vb m c main_v11 (ix2 k q) = m ((c : Thread nD τ).loc main_arg10) (ix2 (⟨1 + k.val, by omega⟩ : Fin 65) q) := by
  unfold Vb
  after_reads_at
  exact congrFun (Wa_arg10 m c) _
theorem Vb_v12 (c : Dev nD) (q : Fin 128) : Vb m c main_v12 (ix2 (0 : Fin 1) q) = m ((c : Thread nD τ).loc main_arg10) (ix2 (0 : Fin 65) q) := by
  unfold Vb
  after_reads_at
  exact congrFun (Wa_arg10 m c) _
theorem Vb_v13 (c : Dev nD) (q : Fin 128) : Vb m c main_v13 (ix2 (0 : Fin 1) q) = m ((c : Thread nD τ).loc main_arg11) (ix1 q) := by
  unfold Vb
  after_reads_at
  exact congrFun (Wa_arg11 m c) _
theorem Vb_v14 (c : Dev nD) (k q : Fin 64) : Vb m c main_v14 (ix2 k q) = m ((c : Thread nD τ).loc main_arg12) (ix2 (⟨1 + k.val, by omega⟩ : Fin 65) q) := by
  unfold Vb
  after_reads_at
  exact congrFun (Wa_arg12 m c) _
theorem Vb_v15 (c : Dev nD) (q : Fin 64) : Vb m c main_v15 (ix2 (0 : Fin 1) q) = m ((c : Thread nD τ).loc main_arg12) (ix2 (0 : Fin 65) q) := by
  unfold Vb
  after_reads_at
  exact congrFun (Wa_arg12 m c) _
theorem Vb_v16 (c : Dev nD) (q : Fin 64) : Vb m c main_v16 (ix2 (0 : Fin 1) q) = m ((c : Thread nD τ).loc main_arg13) (ix1 q) := by
  unfold Vb
  after_reads_at
  exact congrFun (Wa_arg13 m c) _
theorem Vb_v18 (c : Dev nD) (k q : Fin 64) : Vb m c main_v18 (ix2 k q) = m ((c : Thread nD τ).loc main_arg16) (ix2 q (⟨k.val, by omega⟩ : Fin 128)) := by
  unfold Vb
  after_reads_at
  exact congrFun (Wa_arg16 m c) _
/-- The result: the recurrence's array, reshaped. -/
theorem V5_out (c : Dev nD) (b : Fin 4) (n : Fin 10000) (j : Fin 64) (r : Fin 40000) (hr : r.val = 10000 * b.val + n.val) :
    V5 m (left m) c main_v20 (ix3 b n j) = resB m c (ix2 r j) := by
  unfold V5
  rw [V4_left]
  after_reads_at
  rw [show (⟨b.val * 10000 + n.val, by omega⟩ : Fin 40000) = r from Fin.ext (by show b.val * 10000 + n.val = r.val; omega)]
  exact congrFun (Wb_out m c) _

end Cert.KernelIdeal.Own
-- ==== Proof.Feat.lean ====
module

public import Idealize.ShloMosaic.PureOps.Ideal.Laws
public import Idealize.ShloMosaic.Lib.IdealHost

@[expose] public section

noncomputable section

namespace Cert.Feat

open Idealize.ShloMosaic

/-- The number of rows, as the programs write it. -/
def cN : EReal := Ideal.ofBits .f32 1176256512#32
/-- The constant added to the variance. -/
def cE : EReal := Ideal.ofBits .f32 925353388#32
/-- The bound below which a degree counts as one. -/
def cD : EReal := Ideal.ofBits .f32 897988541#32

theorem cN_eq : cN = ((10000 : ℝ) : EReal) := by
  unfold cN
  simp [Ideal.ofBits, Ideal.ieee, -EReal.coe_mul]; norm_num

theorem cE_pos : ∃ r : ℝ, 0 < r ∧ cE = (r : EReal) := by
  unfold cE
  refine ⟨_, ?_, by simp [Ideal.ofBits, Ideal.ieee, -EReal.coe_mul]; rfl⟩
  norm_num

theorem cD_pos : ∃ r : ℝ, 0 < r ∧ cD = (r : EReal) := by
  unfold cD
  refine ⟨_, ?_, by simp [Ideal.ofBits, Ideal.ieee, -EReal.coe_mul]; rfl⟩
  norm_num

/-- The first linear map. -/
def hid (H : Fin 10000 → Fin 128 → EReal) (W : Fin 64 → Fin 128 → EReal) (B : Fin 64 → EReal) (n : Fin 10000) (j : Fin 64) : EReal :=
  ∑ k, H n k * W j k + B j

/-- The aggregation over the neighbours. -/
def agg (A : Fin 10000 → Fin 10000 → EReal) (E : EReal) (X : Fin 10000 → Fin 64 → EReal) (n : Fin 10000) (j : Fin 64) : EReal :=
  Ideal.div (∑ k, A n k * X k j) (if ∑ k, A n k < cD then 1 else ∑ k, A n k) + E * X n j

/-- The normalised value, by the mean of the squared differences. -/
def normR (x : Fin 10000 → EReal) (n : Fin 10000) : EReal :=
  Ideal.div (x n - Ideal.div (∑ k, x k) cN)
    (Ideal.sqrt ((if 0 < cN - FloatOps.sitofp (F := Ideal) .f32 0#32 then
        Ideal.div (∑ k, (x k - Ideal.div (∑ i, x i) cN) * (x k - Ideal.div (∑ i, x i) cN)) (cN - FloatOps.sitofp (F := Ideal) .f32 0#32)
      else Ideal.ofBits .f32 0x7FC00000#32) + cE))

/-- The normalised value, by the mean of the squares less the square of the mean. -/
def normK (x : Fin 10000 → EReal) (n : Fin 10000) : EReal :=
  (x n - Ideal.div (∑ k, x k) cN) *
    Ideal.rsqrt (Ideal.div (∑ k, x k * x k) cN - Ideal.div (∑ k, x k) cN * Ideal.div (∑ k, x k) cN + cE)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The variance in two ways. -/
theorem var_eq (f : Fin 10000 → ℝ) :
    (∑ k, f k * f k) / 10000 - (∑ k, f k) / 10000 * ((∑ k, f k) / 10000)
      = (∑ k, (f k - (∑ i, f i) / 10000) * (f k - (∑ i, f i) / 10000)) / 10000 := by
  have h : ∀ k, (f k - (∑ i, f i) / 10000) * (f k - (∑ i, f i) / 10000)
      = f k * f k - 2 * ((∑ i, f i) / 10000) * f k + (∑ i, f i) / 10000 * ((∑ i, f i) / 10000) := fun k => by ring
  simp only [h, Finset.sum_add_distrib, Finset.sum_sub_distrib, ← Finset.mul_sum, Finset.sum_const, Finset.card_univ, Fintype.card_fin, nsmul_eq_mul]
  push_cast
  ring

theorem norm_eq (x : Fin 10000 → EReal) (hx : ∀ n, ∃ r : ℝ, x n = (r : EReal)) (n : Fin 10000) : normK x n = normR x n := by
  choose f hf using hx
  obtain rfl : x = fun n => (f n : EReal) := funext hf
  obtain ⟨e, he, hE⟩ := cE_pos
  have hs : (FloatOps.sitofp (F := Ideal) .f32 0#32 : EReal) = ((0 : ℝ) : EReal) := by
    show (((0#32 : BitVec 32).toInt : ℝ) : EReal) = _
    simp
  have hn : (10000 : ℝ) ≠ 0 := by norm_num
  unfold normK normR
  rw [hs, cN_eq, hE, ← EReal.coe_sub, sub_zero, if_pos (by exact_mod_cast (by norm_num : (0 : ℝ) < 10000))]
  simp only [← coe_sum, ← EReal.coe_mul, ← EReal.coe_sub, ← EReal.coe_add, div_coe _ _ hn]
  rw [var_eq]
  have hv : 0 ≤ (∑ k, (f k - (∑ i, f i) / 10000) * (f k - (∑ i, f i) / 10000)) / 10000 :=
    div_nonneg (Finset.sum_nonneg fun k _ => mul_self_nonneg _) (by norm_num)
  generalize (∑ k, (f k - (∑ i, f i) / 10000) * (f k - (∑ i, f i) / 10000)) / 10000 = v at hv ⊢
  have hp : 0 < v + e := by linarith
  have h1 : ¬ v + e < 0 := not_lt.mpr hp.le
  rw [Ideal.rsqrt_coe, if_neg h1, if_neg hp.ne', Ideal.sqrt_coe, if_neg h1, div_coe _ _ (Real.sqrt_pos.mpr hp).ne', ← EReal.coe_mul]
  exact congrArg _ (div_eq_mul_inv _ _).symm

theorem real_hid (H : Fin 10000 → Fin 128 → EReal) (W : Fin 64 → Fin 128 → EReal) (B : Fin 64 → EReal)
    (hH : ∀ n k, ∃ r : ℝ, H n k = r) (hW : ∀ j k, ∃ r : ℝ, W j k = r) (hB : ∀ j, ∃ r : ℝ, B j = r) (n : Fin 10000) (j : Fin 64) :
    ∃ r : ℝ, hid H W B n j = r := by
  choose h hh using hH
  choose w hw using hW
  choose b hb using hB
  unfold hid
  simp only [hh, hw, hb, ← EReal.coe_mul, ← coe_sum, ← EReal.coe_add]
  exact ⟨_, rfl⟩

theorem real_agg (A : Fin 10000 → Fin 10000 → EReal) (E : EReal) (X : Fin 10000 → Fin 64 → EReal)
    (hA : ∀ n k, ∃ r : ℝ, A n k = r) (hE : ∃ r : ℝ, E = r) (hX : ∀ n j, ∃ r : ℝ, X n j = r) (n : Fin 10000) (j : Fin 64) :
    ∃ r : ℝ, agg A E X n j = r := by
  choose a ha using hA
  obtain ⟨e, he⟩ := hE
  choose x hx using hX
  obtain ⟨d, hd, hD⟩ := cD_pos
  unfold agg
  simp only [ha, he, hx, hD, ← EReal.coe_mul, ← coe_sum]
  split
  · rw [show (1 : EReal) = ((1 : ℝ) : EReal) from rfl, div_coe _ _ one_ne_zero, ← EReal.coe_add]
    exact ⟨_, rfl⟩
  · rename_i h
    have h' : ¬ (∑ k, a n k) < d := fun h'' => h (by exact_mod_cast h'')
    rw [div_coe _ _ (by intro h0; rw [h0] at h'; exact h' hd), ← EReal.coe_add]
    exact ⟨_, rfl⟩

/-- The features off the normalised rows: two linear maps. -/
def feat (z : Fin 64 → EReal) (bw bb : Fin 64 → EReal) (W2 : Fin 64 → Fin 64 → EReal) (B2 : Fin 64 → EReal) (Wg : Fin 64 → Fin 64 → EReal) (Bg : EReal) (k : Fin 64) : EReal :=
  ∑ i, (∑ l, (z l * bw l + bb l) * W2 i l + B2 i) * Wg i k + Bg

/-- The features through the second half of the last linear map. -/
def ftc (ft : Fin 64 → EReal) (WL : Fin 64 → Fin 64 → EReal) (BL : Fin 64 → EReal) (j : Fin 64) : EReal :=
  ∑ k, ft k * WL j k + BL j

/-- A sum over the rows by blocks of four hundred. -/
def part (f : Fin 10000 → EReal) (t : ℕ) : EReal := ∑ r : Fin 400, f ⟨(400 * t + r.val) % 10000, Nat.mod_lt _ (by norm_num)⟩

theorem sum_parts (f : Fin 10000 → EReal) : ∑ t ∈ Finset.range 25, part f t = ∑ n, f n := by
  rw [Finset.sum_range]
  unfold part
  rw [← Fintype.sum_prod_type']
  refine Fintype.sum_equiv (finProdFinEquiv.trans (finCongr (by norm_num : 25 * 400 = 10000))) _ _ fun p => congrArg f (Fin.ext ?_)
  obtain ⟨t, r⟩ := p
  show (400 * t.val + r.val) % 10000 = r.val + 400 * t.val
  omega

end Cert.Feat
-- ==== Proof.ExtMath.lean ====
module

public import proofs.«01_k».proof.Proof.ExtVal
public import proofs.«01_k».proof.Proof.ArrVal
public import proofs.«01_k».proof.Proof.Feat
public import Idealize.ShloMosaic.Lib.Pointwise

@[expose] public section

set_option maxRecDepth 16384

noncomputable section

namespace Cert.KernelIdeal.Own

open Cert.KernelIdeal Cert.KernelIdeal.Gen
open Idealize.ShloMosaic Idealize.ShloMosaic.TcCoe Idealize.ShloMosaic.Tactic

/-- The features at an index. -/
theorem pay5_at (x1 : Vec Ideal S10000x128 .f32) (x2 : Vec Ideal S128x64 .f32) (x3 : Vec Ideal S1x64 .f32) (n : Fin 10000) (j : Fin 64) :
    k0_pay5 (F := Ideal) x1 x2 x3 (ix2 n j) = ∑ k, x1 (ix2 n k) * x2 (ix2 k j) + x3 (ix2 0 j) := by
  pointwise [k0_pay5, k0_pay4]

/-- The aggregated rows at an index. -/
theorem pay10_at (x0 : Vec Ideal S400x10000 .f32) (x1 : Vec Ideal S10000x128 .f32) (x2 : Vec Ideal S128x64 .f32) (x3 : Vec Ideal S1x64 .f32) (x : Vec Ideal S400x64 .f32) (e : Ideal .f32) (r : Fin 400) (j : Fin 64) :
    k0_pay10 (F := Ideal) x0 (extXs x1 x2 x3) x e (ix2 r j) =
      Ideal.div (∑ k, x0 (ix2 r k) * k0_pay5 (F := Ideal) x1 x2 x3 (ix2 k j)) (if ∑ k, x0 (ix2 r k) < Feat.cD then 1 else ∑ k, x0 (ix2 r k)) + e * x (ix2 r j) := by
  simp only [pay5_at]
  pointwise [k0_pay10, extXs, cat3, k0_pay6, k0_pay7, k0_pay8, k0_pay4]
  rfl

/-- The running sum of the rows. -/
theorem pay12_at (x0 : Vec Ideal S400x10000 .f32) (xs : Vec Ideal S10000x128 .bf16) (x : Vec Ideal S400x64 .f32) (e : Ideal .f32) (s : Vec Ideal S1x64 .f32) (j : Fin 64) :
    k0_pay12 (F := Ideal) x0 xs x e s (ix2 (0 : Fin 1) j) = s (ix2 0 j) + ∑ r, k0_pay10 (F := Ideal) x0 xs x e (ix2 r j) := by
  pointwise [k0_pay12]

/-- The running sum of the squares. -/
theorem pay1_at (v : Vec Ideal S400x64 .f32) (s : Vec Ideal S1x64 .f32) (j : Fin 64) :
    k0_pay1 (F := Ideal) v s (ix2 (0 : Fin 1) j) = s (ix2 0 j) + ∑ r, v (ix2 r j) * v (ix2 r j) := by
  pointwise [k0_pay1]

/-- The sums start at zero. -/
theorem pay9_at (k : Fin 8) (j : Fin 64) : k0_pay9 (F := Ideal) (ix2 k j) = 0 := by
  pointwise [k0_pay9]

/-- The result at an index, off the two sums. -/
theorem out_at (st : Vec Ideal S8x64 .f32) (x2 : Vec Ideal S10000x64 .f32) (x5 x6 : Vec Ideal S1x64 .f32) (x7 : Vec Ideal S64x64 .f32) (x8 : Vec Ideal S1x64 .f32) (x9 : Vec Ideal S64x64 .f32) (x10 : Vec Ideal S1 .f32) (x11 : Vec Ideal S64x64 .f32) (x12 : Vec Ideal S1x64 .f32) (n : Fin 10000) (j : Fin 64)
    (h0 : ∀ l, st (ix2 0 l) = ∑ k, x2 (ix2 k l)) (h1 : ∀ l, st (ix2 1 l) = ∑ k, x2 (ix2 k l) * x2 (ix2 k l)) :
    extOut (F := Ideal) st x2 x5 x6 x7 x8 x9 x10 x11 x12 (ix2 n j) =
      Feat.ftc (Feat.feat (fun l => Feat.normK (fun k => x2 (ix2 k l)) n) (fun l => x5 (ix2 0 l)) (fun l => x6 (ix2 0 l)) (fun i l => x7 (ix2 l i)) (fun i => x8 (ix2 0 i)) (fun i k => x9 (ix2 i k)) (x10 (ix1 0)))
        (fun i k => x11 (ix2 k i)) (fun i => x12 (ix2 0 i)) j := by
  pointwise [extOut, k0_pay2, k0_pay3, rowOf, only]
  simp only [h0, h1]
  rfl

variable (m : ∀ l : Loc nD τ sig, Buf (Elt Ideal) l) (c : Dev nD)

/-- The features the launch's arguments give. -/
def hidOf : Fin 10000 → Fin 64 → EReal :=
  Feat.hid (fun n k => m ((c : Thread nD τ).loc main_arg0) (ix2 n k)) (fun j k => m ((c : Thread nD τ).loc main_arg3) (ix2 j k)) (fun j => m ((c : Thread nD τ).loc main_arg4) (ix1 j))

/-- The aggregated rows the launch's arguments give. -/
def aggOf : Fin 10000 → Fin 64 → EReal :=
  Feat.agg (fun n k => m ((c : Thread nD τ).loc main_arg1) (ix2 n k)) (m ((c : Thread nD τ).loc main_arg9) (ix1 0)) (hidOf m c)

theorem xf_at (n : Fin 10000) (j : Fin 64) : xfAt (Va m) c (ix2 n j) = hidOf m c n j := by
  unfold xfAt hidOf Feat.hid
  rw [pay5_at, iblk0_1_eq, iblk0_2_eq, iblk0_3_eq, Va_arg0, Va_v1]
  simp only [Va_v0]

theorem p10_at (t : Fin cfg0.N) (r : Fin 400) (j : Fin 64) (n : Fin 10000) (hn : n.val = 400 * t.val + r.val) :
    k0_pay10 (iblk0 (Va m) c 0 t) (xsAt (Va m) c) (rowsAt (grid0.coords t) (xfAt (Va m) c)) (only (iblk0 (Va m) c 4 t)) (ix2 r j) = aggOf m c n j := by
  unfold xsAt
  rw [pay10_at]
  have hx : ∀ k, k0_pay5 (iblk0 (Va m) c 1 (pt0 0)) (iblk0 (Va m) c 2 (pt0 0)) (iblk0 (Va m) c 3 (pt0 0)) (ix2 k j) = hidOf m c k j := fun k => xf_at m c k j
  have ha : ∀ k, iblk0 (Va m) c 0 t (ix2 r k) = m ((c : Thread nD τ).loc main_arg1) (ix2 n k) := fun k =>
    (iblk0_0_at (Va m) c t r k n hn).trans (congrFun (Va_arg1 m c) _)
  have hr : rowsAt (grid0.coords t) (xfAt (Va m) c) (ix2 r j) = hidOf m c n j := by
    unfold rowsAt
    refine Eq.trans (congrArg _ ?_) (xf_at m c n j)
    refine congrArg (fun z : Fin 10000 => (ix2 z j : S10000x64.Idx)) (Fin.ext ?_)
    show 400 * (grid0.coords t 0).val + r.val = n.val
    rw [coords0_val, hn]
  have he : only (iblk0 (Va m) c 4 t) = m ((c : Thread nD τ).loc main_arg9) (ix1 0) := by
    unfold only
    rw [iblk0_4_eq, Va_arg9]
    rfl
  rw [hr, he]
  simp only [hx, ha]
  rfl

theorem pt0v (n : ℕ) (h : n < 25) : (pt0 n).val = n := by
  show n % cfg0.N = n
  rw [show cfg0.N = 25 from N_0]
  exact Nat.mod_eq_of_lt h

theorem x2_at : ∀ (k : ℕ) (_ : k < 25) (n : Fin 10000) (j : Fin 64) (_ : n.val < 400 * (k + 1)), x2At (Va m) c (xfAt (Va m) c) k (ix2 n j) = aggOf m c n j := by
  have key : ∀ (t : Fin cfg0.N) (x : Vec Ideal S10000x64 .f32) (n : Fin 10000) (j : Fin 64), n.val < 400 * (t.val + 1) → (n.val < 400 * t.val → x (ix2 n j) = aggOf m c n j) →
      extX2 (grid0.coords t) (iblk0 (Va m) c 0 t) (xsAt (Va m) c) (xfAt (Va m) c) (iblk0 (Va m) c 4 t) x (ix2 n j) = aggOf m c n j := by
    intro t x n j hn hx
    unfold extX2 putRows
    have hc := coords0_val t
    split
    · rename_i h
      have h1 : 400 * (grid0.coords t 0).val ≤ n.val := h.1
      unfold k0_pay11
      pointwise
      exact p10_at m c t _ j n (by show n.val = 400 * t.val + (n.val - 400 * (grid0.coords t 0).val); omega)
    · rename_i h
      refine hx ?_
      by_contra h'
      exact h ⟨by show 400 * (grid0.coords t 0).val ≤ n.val; omega, by show n.val < 400 * (grid0.coords t 0).val + 400; omega⟩
  intro k
  induction k with
  | zero =>
    intro h n j hn
    refine key (pt0 0) _ n j ?_ fun h' => ?_
    · rw [pt0v 0 h]; exact hn
    · rw [pt0v 0 h] at h'; omega
  | succ k ih =>
    intro h n j hn
    refine key (pt0 (k + 1)) _ n j ?_ fun h' => ?_
    · rw [pt0v (k + 1) h]; exact hn
    · rw [pt0v (k + 1) h] at h'
      exact ih (by omega) n j h'

theorem st_at : ∀ (k : ℕ) (_ : k < 25) (j : Fin 64),
    stAt (Va m) c k (ix2 0 j) = ∑ t ∈ Finset.range (k + 1), Feat.part (fun n => aggOf m c n j) t ∧
    stAt (Va m) c k (ix2 1 j) = ∑ t ∈ Finset.range (k + 1), Feat.part (fun n => aggOf m c n j * aggOf m c n j) t := by
  have key : ∀ (k : ℕ) (_ : k < 25) (st : Vec Ideal S8x64 .f32) (j : Fin 64),
      extSt (grid0.coords (pt0 k)) (iblk0 (Va m) c 0 (pt0 k)) (xsAt (Va m) c) (xfAt (Va m) c) (iblk0 (Va m) c 4 (pt0 k)) st (ix2 0 j) = st (ix2 0 j) + Feat.part (fun n => aggOf m c n j) k ∧
      extSt (grid0.coords (pt0 k)) (iblk0 (Va m) c 0 (pt0 k)) (xsAt (Va m) c) (xfAt (Va m) c) (iblk0 (Va m) c 4 (pt0 k)) st (ix2 1 j) = st (ix2 1 j) + Feat.part (fun n => aggOf m c n j * aggOf m c n j) k := by
    intro k hk st j
    have hp : ∀ r : Fin 400, k0_pay10 (iblk0 (Va m) c 0 (pt0 k)) (xsAt (Va m) c) (rowsAt (grid0.coords (pt0 k)) (xfAt (Va m) c)) (only (iblk0 (Va m) c 4 (pt0 k))) (ix2 r j)
        = aggOf m c ⟨(400 * k + r.val) % 10000, Nat.mod_lt _ (by norm_num)⟩ j := fun r =>
      p10_at m c (pt0 k) r j _ (by rw [pt0v k hk]; show (400 * k + r.val) % 10000 = _; omega)
    constructor
    · show k0_pay12 _ _ _ _ (rowOf 0 st) (ix2 (0 : Fin 1) j) = _
      rw [pay12_at]
      simp only [hp]
      rfl
    · show k0_pay1 _ (rowOf 1 st) (ix2 (0 : Fin 1) j) = _
      rw [pay1_at]
      simp only [hp]
      rfl
  intro k
  induction k with
  | zero =>
    intro h j
    obtain ⟨h0, h1⟩ := key 0 h (k0_pay9 (F := Ideal)) j
    rw [pay9_at, zero_add] at h0 h1
    rw [Finset.sum_range_one, Finset.sum_range_one]
    exact ⟨h0, h1⟩
  | succ k ih =>
    intro h j
    obtain ⟨h0, h1⟩ := key (k + 1) h (stAt (Va m) c k) j
    obtain ⟨i0, i1⟩ := ih (by omega) j
    rw [Finset.sum_range_succ (fun t => Feat.part (fun n => aggOf m c n j) t) (k + 1), ← i0,
      Finset.sum_range_succ (fun t => Feat.part (fun n => aggOf m c n j * aggOf m c n j) t) (k + 1), ← i1]
    exact ⟨h0, h1⟩

/-- The features' part of the last linear map, as the kernel leaves it. -/
def ftcOf (n : Fin 10000) (j : Fin 64) : EReal :=
  Feat.ftc (Feat.feat (fun l => Feat.normK (fun k => aggOf m c k l) n) (fun l => m ((c : Thread nD τ).loc main_arg7) (ix1 l)) (fun l => m ((c : Thread nD τ).loc main_arg8) (ix1 l))
      (fun i l => m ((c : Thread nD τ).loc main_arg5) (ix2 i l)) (fun i => m ((c : Thread nD τ).loc main_arg6) (ix1 i)) (fun i k => m ((c : Thread nD τ).loc main_arg14) (ix2 i k)) (m ((c : Thread nD τ).loc main_arg15) (ix1 0)))
    (fun i k => m ((c : Thread nD τ).loc main_arg16) (ix2 i (⟨64 + k.val, by omega⟩ : Fin 128))) (fun i => m ((c : Thread nD τ).loc main_arg17) (ix1 i)) j

theorem resA_at (n : Fin 10000) (j : Fin 64) : resA m c (ix2 n j) = ftcOf m c n j := by
  have hx : ∀ k l, x2At (Va m) c (xfAt (Va m) c) 24 (ix2 k l) = aggOf m c k l := fun k l => x2_at m c 24 (by norm_num) k l (by have := k.isLt; omega)
  rw [resA_eq]
  unfold outAt0
  rw [out_at _ _ _ _ _ _ _ _ _ _ n j
    (fun l => by rw [(st_at m c 24 (by norm_num) l).1, Feat.sum_parts]; simp only [hx])
    (fun l => by rw [(st_at m c 24 (by norm_num) l).2, Feat.sum_parts]; simp only [hx])]
  simp only [hx, iblk0_5_eq, iblk0_6_eq, iblk0_7_eq, iblk0_8_eq, iblk0_9_eq, iblk0_10_eq, iblk0_11_eq, iblk0_12_eq,
    Va_v2, Va_v3, Va_v4, Va_v5, Va_arg14, Va_arg15, Va_v7, Va_v8]
  rfl

end Cert.KernelIdeal.Own
-- ==== Proof.Step.lean ====
module

public import Idealize.ShloMosaic.Lib.Pointwise

@[expose] public section

noncomputable section

namespace Cert.Step

open Idealize.ShloMosaic

/-- The gates' array at row `m`, column `q`. -/
def gate (W1h : Fin 64 → Fin 128 → EReal) (W1r B1 : Fin 128 → EReal) (x : Fin 10000 → EReal) (H : Fin 10000 → Fin 64 → EReal) (m : Fin 10000) (q : Fin 128) : EReal :=
  Ideal.logistic (∑ k, H m k * W1h k q + x m * W1r q + B1 q)

/-- The column of the gates' array that holds a gate of node `n`, feature `j`. -/
def qcol (n : Fin 10000) (j : Fin 64) : Fin 128 := ⟨n.val % 2 * 64 + j.val, by omega⟩

/-- The row that holds the reset gate of node `n`. -/
def lorow (n : Fin 10000) : Fin 10000 := ⟨n.val / 2, by omega⟩

/-- The row that holds the update gate of node `n`. -/
def hirow (n : Fin 10000) : Fin 10000 := ⟨5000 + n.val / 2, by omega⟩

/-- The next state off the gates' array `a`. -/
def cell (a : Fin 10000 → Fin 128 → EReal) (W2h : Fin 64 → Fin 64 → EReal) (W2r B2 : Fin 64 → EReal) (WL : Fin 64 → Fin 64 → EReal)
    (FTC : Fin 10000 → Fin 64 → EReal) (x : Fin 10000 → EReal) (H : Fin 10000 → Fin 64 → EReal) (n : Fin 10000) (j : Fin 64) : EReal :=
  ∑ k, (a (hirow n) (qcol n k) * H n k + (1 - a (hirow n) (qcol n k)) *
      Ideal.tanh (∑ i, a (lorow n) (qcol n i) * H n i * W2h i k + x n * W2r k + B2 k)) * WL k j + FTC n j

/-- One step of the recurrence on one batch element. -/
def next (W1h : Fin 64 → Fin 128 → EReal) (W1r B1 : Fin 128 → EReal) (W2h : Fin 64 → Fin 64 → EReal) (W2r B2 : Fin 64 → EReal) (WL : Fin 64 → Fin 64 → EReal)
    (FTC : Fin 10000 → Fin 64 → EReal) (x : Fin 10000 → EReal) (H : Fin 10000 → Fin 64 → EReal) : Fin 10000 → Fin 64 → EReal :=
  cell (gate W1h W1r B1 x H) W2h W2r B2 WL FTC x H

end Cert.Step
-- ==== Proof.GruMath.lean ====
module

public import proofs.«01_k».proof.Proof.GruVal
public import proofs.«01_k».proof.Proof.Step
public import Idealize.ShloMosaic.Lib.Pointwise

@[expose] public section

set_option maxRecDepth 16384

noncomputable section

namespace Cert.KernelIdeal.Own

open Cert.KernelIdeal Cert.KernelIdeal.Gen
open Idealize.ShloMosaic Idealize.ShloMosaic.Tactic

/-- The gates' array at an index. -/
theorem pay6_at (h : Vec Ideal S10000x64 .f32) (ir : Vec Ideal S1x1x10000 .f32) (w1h : Vec Ideal S64x128 .f32) (w1r b1 : Vec Ideal S1x128 .f32) (n : Fin 10000) (j : Fin 128) :
    k1_pay6 (F := Ideal) h ir w1h w1r b1 (ix2 n j) = Step.gate (fun k q => w1h (ix2 k q)) (fun q => w1r (ix2 0 q)) (fun q => b1 (ix2 0 q)) (fun m => ir (ix3 0 0 m)) (fun m k => h (ix2 m k)) n j := by
  pointwise [k1_pay6, k1_pay4, k1_pay5]
  unfold Step.gate
  rw [Fin.sum_univ_one]

/-- The next state off the gates at an index. -/
theorem next_at (a : Vec Ideal S10000x128 .bf16) (h : Vec Ideal S10000x64 .f32) (ir : Vec Ideal S1x1x10000 .f32) (ftc : Vec Ideal S10000x64 .f32) (w2h : Vec Ideal S64x64 .f32) (w2r b2 : Vec Ideal S1x64 .f32) (wlt : Vec Ideal S64x64 .f32) (n : Fin 10000) (j : Fin 64) :
    gruNext (F := Ideal) a h ir ftc w2h w2r b2 wlt (ix2 n j) = Step.cell (fun m q => a (ix2 m q)) (fun k q => w2h (ix2 k q)) (fun q => w2r (ix2 0 q)) (fun q => b2 (ix2 0 q)) (fun k q => wlt (ix2 k q)) (fun m q => ftc (ix2 m q)) (fun m => ir (ix3 0 0 m)) (fun m k => h (ix2 m k)) n j := by
  pointwise [gruNext, k1_pay14, k1_pay13, k1_pay3, k1_pay4, k1_pay5, gruR, gruU, k1_pay9, k1_pay10, k1_pay7, k1_pay8, k1_pay11, k1_pay12, rows2, halfLo, halfHi]
  by_cases hp : n.val % 2 = 1
  · have hq : ∀ x : Fin 64, Step.qcol n x = ⟨64 + x.val, by omega⟩ := fun x => Fin.ext (by show n.val % 2 * 64 + x.val = 64 + x.val; omega)
    simp only [hp, ↓reduceIte, Fin.sum_univ_one]
    unfold Step.cell
    simp only [hq]
    rfl
  · have hq : ∀ x : Fin 64, Step.qcol n x = ⟨x.val, by omega⟩ := fun x => Fin.ext (by show n.val % 2 * 64 + x.val = x.val; omega)
    simp only [hp, ↓reduceIte, Fin.sum_univ_one]
    unfold Step.cell
    simp only [hq]
    rfl

/-- One batch element's next state at an index. -/
theorem gruSlab_at (ir : Vec Ideal S1x1x10000 .f32) (ftc : Vec Ideal S10000x64 .f32) (w1h : Vec Ideal S64x128 .f32) (w1r b1 : Vec Ideal S1x128 .f32)
    (w2h : Vec Ideal S64x64 .f32) (w2r b2 : Vec Ideal S1x64 .f32) (wlt : Vec Ideal S64x64 .f32) (h : Vec Ideal S10000x64 .f32) (n : Fin 10000) (j : Fin 64) :
    gruSlab (F := Ideal) ir ftc w1h w1r b1 w2h w2r b2 wlt h (ix2 n j) =
      Step.next (fun k q => w1h (ix2 k q)) (fun q => w1r (ix2 0 q)) (fun q => b1 (ix2 0 q)) (fun k q => w2h (ix2 k q)) (fun q => w2r (ix2 0 q)) (fun q => b2 (ix2 0 q)) (fun k q => wlt (ix2 k q)) (fun m q => ftc (ix2 m q)) (fun m => ir (ix3 0 0 m)) (fun m k => h (ix2 m k)) n j := by
  unfold gruSlab Step.next
  rw [next_at]
  congr 1
  funext m q
  exact pay6_at h ir w1h w1r b1 m q
end Cert.KernelIdeal.Own
-- ==== Proof.Rec.lean ====
module

public import proofs.«01_k».proof.Proof.Step

@[expose] public section

noncomputable section

namespace Cert.Step

open Idealize.ShloMosaic

/-- The state after `t` steps from the zero state, on one batch element with inputs `x`. -/
def state (W1h : Fin 64 → Fin 128 → EReal) (W1r B1 : Fin 128 → EReal) (W2h : Fin 64 → Fin 64 → EReal) (W2r B2 : Fin 64 → EReal) (WL : Fin 64 → Fin 64 → EReal)
    (FTC : Fin 10000 → Fin 64 → EReal) (x : ℕ → Fin 10000 → EReal) : ℕ → Fin 10000 → Fin 64 → EReal
  | 0 => fun _ _ => 0
  | t + 1 => next W1h W1r B1 W2h W2r B2 WL FTC (x t) (state W1h W1r B1 W2h W2r B2 WL FTC x t)

end Cert.Step
-- ==== Proof.GruRec.lean ====
module

public import proofs.«01_k».proof.Proof.ExtMath
public import proofs.«01_k».proof.Proof.GruMath
public import proofs.«01_k».proof.Proof.Rec

@[expose] public section

set_option maxRecDepth 16384

noncomputable section

namespace Cert.KernelIdeal.Own

open Cert.KernelIdeal Cert.KernelIdeal.Gen
open Idealize.ShloMosaic Idealize.ShloMosaic.TcCoe Idealize.ShloMosaic.Tactic

variable (m : ∀ l : Loc nD τ sig, Buf (Elt Ideal) l) (c : Dev nD)

/-- The state of batch element `b` after `t` steps, off the launch's arguments. -/
def stateOf (b : Fin 4) : ℕ → Fin 10000 → Fin 64 → EReal :=
  Step.state (fun k q => m ((c : Thread nD τ).loc main_arg10) (ix2 (⟨1 + k.val, by omega⟩ : Fin 65) q)) (fun q => m ((c : Thread nD τ).loc main_arg10) (ix2 (0 : Fin 65) q)) (fun q => m ((c : Thread nD τ).loc main_arg11) (ix1 q))
    (fun k q => m ((c : Thread nD τ).loc main_arg12) (ix2 (⟨1 + k.val, by omega⟩ : Fin 65) q)) (fun q => m ((c : Thread nD τ).loc main_arg12) (ix2 (0 : Fin 65) q)) (fun q => m ((c : Thread nD τ).loc main_arg13) (ix1 q))
    (fun k q => m ((c : Thread nD τ).loc main_arg16) (ix2 q (⟨k.val, by omega⟩ : Fin 128))) (ftcOf m c)
    (fun t n => m ((c : Thread nD τ).loc main_arg2) (ix3 b (⟨t % 12, Nat.mod_lt _ (by norm_num)⟩ : Fin 12) n))

theorem coords1v (t : Fin cfg1.N) : (grid1.coords t 0).val = t.val :=
  (by decide +kernel : ∀ t : Fin grid1.N, (grid1.coords t 0).val = t.val) t

/-- One point of the recurrence takes the state after `n` steps to the state after `n + 1`. -/
theorem gruAt_at (t : Fin cfg1.N) (xo : Vec Ideal S40000x64 .f32) (b : Fin 4) (hx : ∀ (n : Fin 10000) (j : Fin 64) (r : Fin 40000), r.val = 10000 * b.val + n.val → xo (ix2 r j) = stateOf m c b t.val n j)
    (n : Fin 10000) (j : Fin 64) (r : Fin 40000) (hr : r.val = 10000 * b.val + n.val) :
    gruAt (Vb m) c t xo (ix2 r j) = stateOf m c b (t.val + 1) n j := by
  unfold gruAt
  rw [gruOut_at _ _ _ _ _ _ _ _ _ _ xo b (ix2 r j) (ix2 n j) hr rfl, gruSlab_at]
  have hs : ∀ n j, slabOf b xo (ix2 n j) = stateOf m c b t.val n j := fun n j => hx n j _ rfl
  have hi : ∀ n, inRow (grid1.coords t) b (iblk1 (Vb m) c 0 t) (ix3 0 0 n) = m ((c : Thread nD τ).loc main_arg2) (ix3 b (⟨t.val % 12, Nat.mod_lt _ (by norm_num)⟩ : Fin 12) n) := by
    intro n
    unfold inRow
    rw [iblk1_0_eq]
    refine Eq.trans ?_ (Vb_v10 m c _ b n)
    refine congrArg (fun z : Fin 12 => Vb m c main_v10 (ix3 z b n)) (Fin.ext ?_)
    show (grid1.coords t 0).val = t.val % 12
    rw [coords1v]
    exact (Nat.mod_eq_of_lt (lt_of_lt_of_eq t.isLt (show cfg1.N = 12 from N_1))).symm
  simp only [hs, hi, iblk1_1_eq, iblk1_2_eq, iblk1_3_eq, iblk1_4_eq, iblk1_5_eq, iblk1_6_eq, iblk1_7_eq, iblk1_8_eq,
    Vb_v9, resA_at, Vb_v11, Vb_v12, Vb_v13, Vb_v14, Vb_v15, Vb_v16, Vb_v18]
  rfl

theorem zero_at (r : Fin 40000) (j : Fin 64) : k1_pay2 (F := Ideal) (ix2 r j) = 0 := by
  pointwise [k1_pay2]

theorem outs1_at (b : Fin 4) : ∀ (k : ℕ) (hk : k < cfg1.N) (n : Fin 10000) (j : Fin 64) (r : Fin 40000), r.val = 10000 * b.val + n.val →
    outs1 (Vb m) c k hk (ix2 r j) = stateOf m c b (k + 1) n j := by
  intro k
  induction k with
  | zero =>
    intro hk n j r hr
    exact gruAt_at m c ⟨0, hk⟩ (k1_pay2 (F := Ideal)) b (fun n j r _ => zero_at r j) n j r hr
  | succ k ih =>
    intro hk n j r hr
    exact gruAt_at m c ⟨k + 1, hk⟩ (outs1 (Vb m) c k (Nat.lt_of_succ_lt hk)) b (fun n j r hr => ih _ n j r hr) n j r hr

/-- The kernel's result at an index: the state after twelve steps. -/
theorem out20_at (b : Fin 4) (n : Fin 10000) (j : Fin 64) : V5 m (left m) c main_v20 (ix3 b n j) = stateOf m c b 12 n j := by
  have hb : 10000 * b.val + n.val < 40000 := by have := b.isLt; have := n.isLt; omega
  rw [V5_out m c b n j ⟨10000 * b.val + n.val, hb⟩ rfl, resB_eq]
  exact outs1_at m c b 11 _ n j _ rfl

end Cert.KernelIdeal.Own
-- ==== Proof.RefMath.lean ====
module

public import proofs.«01_k».proof.Proof.Gen.ReferenceIdeal.Run
public import proofs.«01_k».proof.Proof.Step
public import Idealize.ShloMosaic.Lib.Pointwise
public import Idealize.ShloMosaic.Lib.Tactic.CleanTypes

@[expose] public section

set_option maxRecDepth 16384

noncomputable section

namespace Cert.ReferenceIdeal.Own

open Cert.ReferenceIdeal Cert.ReferenceIdeal.Gen Cert.ReferenceIdeal.Value
open Idealize.ShloMosaic Idealize.ShloMosaic.TcCoe Idealize.ShloMosaic.Tactic

/-- The two gates of one step, flat. -/
def refRU (inp : FVec Ideal S4x10000 .f32) (h : FVec Ideal S4x640000 .f32) (w1 : FVec Ideal S65x128 .f32) (b1 : FVec Ideal S128 .f32) : FVec Ideal S4x1280000 .f32 :=
  Host.divf (broadcastInDim S4x1280000 ![] bcast_S_S4x1280000 (constant S_ .f32 0x3F800000#32)) (addf (broadcastInDim S4x1280000 ![] bcast_S_S4x1280000 (constant S_ .f32 0x3F800000#32)) (Host.exp (Host.negf (shapeCast S4x1280000 (addf (Host.dotGeneral (φ₁ := .f32) (φ₂ := .f32) dot_S40000x65_S65x128_S40000x128_1_0_0_1_n_n none (shapeCast S40000x65 (concatenate S4x10000x65 2 [⟨S4x10000x1, (shapeCast _ inp shapeCasts_S4x10000_S4x10000x1)⟩, ⟨S4x10000x64, (shapeCast _ h shapeCasts_S4x640000_S4x10000x64)⟩] concatenates_S4x10000x1_S4x10000x64_S4x10000x65_d2) shapeCasts_S4x10000x65_S40000x65) w1) (broadcastInDim S40000x128 ![0, 1] bcast_S1x128_S40000x128_0_1 (broadcastInDim S1x128 ![1] bcast_S128_S1x128_1 b1))) shapeCasts_S40000x128_S4x1280000))))

/-- One step's candidate, flat. -/
def refCand (inp : FVec Ideal S4x10000 .f32) (h : FVec Ideal S4x640000 .f32) (ru : FVec Ideal S4x1280000 .f32) (w2 : FVec Ideal S65x64 .f32) (b2 : FVec Ideal S64 .f32) : FVec Ideal S4x640000 .f32 :=
  Host.tanh (shapeCast _ (addf (Host.dotGeneral (φ₁ := .f32) (φ₂ := .f32) dot_S40000x65_S65x64_S40000x64_1_0_0_1_n_n none (shapeCast _ (concatenate S4x10000x65 2 [⟨S4x10000x1, (shapeCast _ inp shapeCasts_S4x10000_S4x10000x1)⟩, ⟨S4x10000x64, (shapeCast _ (mulf (extractStridedSlice S4x640000 ![0, 0] ru slices_S4x1280000_S4x640000_0_0) h) shapeCasts_S4x640000_S4x10000x64)⟩] concatenates_S4x10000x1_S4x10000x64_S4x10000x65_d2) shapeCasts_S4x10000x65_S40000x65) w2) (broadcastInDim S40000x64 ![0, 1] bcast_S1x64_S40000x64_0_1 (broadcastInDim S1x64 ![1] bcast_S64_S1x64_1 b2))) shapeCasts_S40000x64_S4x640000)

/-- One step's result, by rows. -/
def refNew (inp : FVec Ideal S4x10000 .f32) (h : FVec Ideal S4x640000 .f32) (ru : FVec Ideal S4x1280000 .f32) (ft : FVec Ideal S40000x64 .f32) (w2 : FVec Ideal S65x64 .f32) (b2 : FVec Ideal S64 .f32) (wl : FVec Ideal S64x128 .f32) (bl : FVec Ideal S64 .f32) : FVec Ideal S40000x64 .f32 :=
  addf (Host.dotGeneral (φ₁ := .f32) (φ₂ := .f32) dot_S40000x128_S128x64_S40000x64_1_0_0_1_n_n none (concatenate S40000x128 1 [⟨S40000x64, (shapeCast _ (addf (mulf (extractStridedSlice S4x640000 ![0, 640000] ru slices_S4x1280000_S4x640000_0_640000) h) (mulf (subf (broadcastInDim S4x640000 ![] bcast_S_S4x640000 (constant S_ .f32 0x3F800000#32)) (extractStridedSlice S4x640000 ![0, 640000] ru slices_S4x1280000_S4x640000_0_640000)) (refCand inp h ru w2 b2))) shapeCasts_S4x640000_S40000x64)⟩, ⟨S40000x64, ft⟩] concatenates_S40000x64_S40000x64_S40000x128_d1) (transpose S128x64 [1, 0] wl transposes_S64x128_S128x64_1_0)) (broadcastInDim S40000x64 ![0, 1] bcast_S1x64_S40000x64_0_1 (broadcastInDim S1x64 ![1] bcast_S64_S1x64_1 bl))

/-- The gates at a flat position. -/
theorem refRU_at (inp : Vec Ideal S4x10000 .f32) (h : Vec Ideal S4x640000 .f32) (w1 : Vec Ideal S65x128 .f32) (b1 : Vec Ideal S128 .f32) (b : Fin 4) (m : Fin 10000) (q : Fin 128) (p : Fin 1280000) (hp : p.val = m.val * 128 + q.val) :
    refRU inp h w1 b1 (ix2 b p) = Step.gate (fun k q => w1 (ix2 (⟨1 + k.val, by omega⟩ : Fin 65) q)) (fun q => w1 (ix2 (0 : Fin 65) q)) (fun q => b1 (ix1 q)) (fun m => inp (ix2 b m)) (fun m k => h (ix2 b (⟨m.val * 64 + k.val, by omega⟩ : Fin 640000))) m q := by
  pointwise [refRU]
  have e1 : (b.val * 10000 + p.val / 128) % 10000 = m.val := by omega
  have e2 : p.val % 128 = q.val := by omega
  simp only [e1, e2, Fin.sum_univ_one, Fin.eta]
  unfold Step.gate Ideal.logistic
  rw [add_comm (∑ k : Fin 64, _) (inp (ix2 b m) * _)]

/-- The candidate at a flat position. -/
theorem refCand_at (inp : Vec Ideal S4x10000 .f32) (h : Vec Ideal S4x640000 .f32) (ru : Vec Ideal S4x1280000 .f32) (w2 : Vec Ideal S65x64 .f32) (b2 : Vec Ideal S64 .f32) (b : Fin 4) (n : Fin 10000) (k : Fin 64) (p : Fin 640000) (hp : p.val = n.val * 64 + k.val)
    (a : Fin 10000 → Fin 128 → EReal) (ha : ∀ (m : Fin 10000) (q : Fin 128) (p : Fin 1280000), p.val = m.val * 128 + q.val → ru (ix2 b p) = a m q) :
    refCand inp h ru w2 b2 (ix2 b p) = Ideal.tanh (∑ i : Fin 64, a (Step.lorow n) (Step.qcol n i) * h (ix2 b (⟨n.val * 64 + i.val, by omega⟩ : Fin 640000)) * w2 (ix2 (⟨1 + i.val, by omega⟩ : Fin 65) k) + inp (ix2 b n) * w2 (ix2 (0 : Fin 65) k) + b2 (ix1 k)) := by
  pointwise [refCand]
  have e1 : p.val / 64 = n.val := by omega
  have e2 : p.val % 64 = k.val := by omega
  have e5 : (b.val * 10000 + n.val) / 10000 = b.val := by omega
  have e6 : (b.val * 10000 + n.val) % 10000 = n.val := by omega
  have a1 : ∀ (x : Fin 64) (hx : n.val * 64 + x.val < 1280000), ru (ix2 b ⟨n.val * 64 + x.val, hx⟩) = a (Step.lorow n) (Step.qcol n x) := fun x hx =>
    ha _ _ _ (by show n.val * 64 + x.val = n.val / 2 * 128 + (n.val % 2 * 64 + x.val); omega)
  simp only [e1, e2, e5, e6, Fin.sum_univ_one, Fin.eta, a1]
  rw [add_comm (inp (ix2 b n) * _)]

/-- One step's result at a row of batch element `b`. -/
theorem refNew_at (inp : Vec Ideal S4x10000 .f32) (h : Vec Ideal S4x640000 .f32) (ru : Vec Ideal S4x1280000 .f32) (ft : Vec Ideal S40000x64 .f32) (w2 : Vec Ideal S65x64 .f32) (b2 : Vec Ideal S64 .f32) (wl : Vec Ideal S64x128 .f32) (bl : Vec Ideal S64 .f32) (b : Fin 4) (n : Fin 10000) (j : Fin 64) (r : Fin 40000) (hr : r.val = 10000 * b.val + n.val)
    (a : Fin 10000 → Fin 128 → EReal) (ha : ∀ (m : Fin 10000) (q : Fin 128) (p : Fin 1280000), p.val = m.val * 128 + q.val → ru (ix2 b p) = a m q) :
    refNew inp h ru ft w2 b2 wl bl (ix2 r j) = Step.cell a (fun k q => w2 (ix2 (⟨1 + k.val, by omega⟩ : Fin 65) q)) (fun q => w2 (ix2 (0 : Fin 65) q)) (fun q => b2 (ix1 q)) (fun k q => wl (ix2 q (⟨k.val, by omega⟩ : Fin 128)))
      (fun m q => ∑ k : Fin 64, ft (ix2 (⟨10000 * b.val + m.val, by omega⟩ : Fin 40000) k) * wl (ix2 q (⟨64 + k.val, by omega⟩ : Fin 128)) + bl (ix1 q)) (fun m => inp (ix2 b m)) (fun m k => h (ix2 b (⟨m.val * 64 + k.val, by omega⟩ : Fin 640000))) n j := by
  have a2 : ∀ (x : Fin 64) (hx : 640000 + (n.val * 64 + x.val) < 1280000), ru (ix2 b ⟨640000 + (n.val * 64 + x.val), hx⟩) = a (Step.hirow n) (Step.qcol n x) := fun x hx =>
    ha _ _ _ (by show 640000 + (n.val * 64 + x.val) = (5000 + n.val / 2) * 128 + (n.val % 2 * 64 + x.val); omega)
  have a3 : ∀ (x : Fin 64) (hx : n.val * 64 + x.val < 640000), refCand inp h ru w2 b2 (ix2 b ⟨n.val * 64 + x.val, hx⟩) = _ := fun x hx =>
    refCand_at inp h ru w2 b2 b n x _ rfl a ha
  have hb : 10000 * b.val + n.val < 40000 := by omega
  obtain rfl : r = ⟨10000 * b.val + n.val, hb⟩ := Fin.ext hr
  have e1 : (10000 * b.val + n.val) / 10000 = b.val := by omega
  have e2 : (10000 * b.val + n.val) % 10000 = n.val := by omega
  pointwise [refNew]
  simp only [e1, e2, Fin.eta, a2, a3]
  unfold Step.cell
  rw [add_assoc]

/-- One whole step at a row of batch element `b`. -/
theorem refStep_at (inp : Vec Ideal S4x10000 .f32) (h : Vec Ideal S4x640000 .f32) (w1 : Vec Ideal S65x128 .f32) (b1 : Vec Ideal S128 .f32) (ft : Vec Ideal S40000x64 .f32) (w2 : Vec Ideal S65x64 .f32) (b2 : Vec Ideal S64 .f32) (wl : Vec Ideal S64x128 .f32) (bl : Vec Ideal S64 .f32) (b : Fin 4) (n : Fin 10000) (j : Fin 64) (r : Fin 40000) (hr : r.val = 10000 * b.val + n.val) :
    refNew inp h (refRU inp h w1 b1) ft w2 b2 wl bl (ix2 r j) = Step.next (fun k q => w1 (ix2 (⟨1 + k.val, by omega⟩ : Fin 65) q)) (fun q => w1 (ix2 (0 : Fin 65) q)) (fun q => b1 (ix1 q)) (fun k q => w2 (ix2 (⟨1 + k.val, by omega⟩ : Fin 65) q)) (fun q => w2 (ix2 (0 : Fin 65) q)) (fun q => b2 (ix1 q)) (fun k q => wl (ix2 q (⟨k.val, by omega⟩ : Fin 128)))
      (fun m q => ∑ k : Fin 64, ft (ix2 (⟨10000 * b.val + m.val, by omega⟩ : Fin 40000) k) * wl (ix2 q (⟨64 + k.val, by omega⟩ : Fin 128)) + bl (ix1 q)) (fun m => inp (ix2 b m)) (fun m k => h (ix2 b (⟨m.val * 64 + k.val, by omega⟩ : Fin 640000))) n j :=
  refNew_at inp h _ ft w2 b2 wl bl b n j r hr _ (fun m q p hp => refRU_at inp h w1 b1 b m q p hp)

end Cert.ReferenceIdeal.Own
-- ==== Proof.RefExt.lean ====
module

public import proofs.«01_k».proof.Proof.RefMath
public import proofs.«01_k».proof.Proof.Feat

@[expose] public section

set_option maxRecDepth 16384

noncomputable section

namespace Cert.ReferenceIdeal.Own

open Cert.ReferenceIdeal Cert.ReferenceIdeal.Gen Cert.ReferenceIdeal.Value
open Idealize.ShloMosaic Idealize.ShloMosaic.TcCoe Idealize.ShloMosaic.StableHlo Idealize.ShloMosaic.Tactic

variable (V : Valuation τ sig (Elt Ideal))

/-- The features the arguments give. -/
def hidOf : Fin 10000 → Fin 64 → EReal :=
  Feat.hid (fun n k => V (Proc.devRef .tc main_arg0) (ix2 n k)) (fun j k => V (Proc.devRef .tc main_arg3) (ix2 j k)) (fun j => V (Proc.devRef .tc main_arg4) (ix1 j))

/-- The aggregated rows the arguments give. -/
def aggOf : Fin 10000 → Fin 64 → EReal :=
  Feat.agg (fun n k => V (Proc.devRef .tc main_arg1) (ix2 n k)) (V (Proc.devRef .tc main_arg9) (ix1 0)) (hidOf V)

/-- The features at an index. -/
theorem v4_at (n : Fin 10000) (j : Fin 64) : (res_main_v4 V (ix2 n j) : EReal) = hidOf V n j := by
  unfold res_main_v4
  pointwise
  rfl

/-- The aggregated rows at an index. -/
theorem v16_at (n : Fin 10000) (j : Fin 64) : (res_main_v16 V (ix2 n j) : EReal) = aggOf V n j := by
  unfold res_main_v16 res_main_v7
  clean_types
  pointwise
  simp only [v4_at]
  rfl

/-- The graph's features at an index of one batch entry's rows. -/
theorem v46_at (b : Fin 4) (n : Fin 10000) (r : Fin 40000) (hr : r.val = 10000 * b.val + n.val) (j : Fin 64) :
    (res_main_v46 V (ix2 r j) : EReal) =
      Feat.feat (fun l => Feat.normR (fun k => aggOf V k l) n) (fun l => V (Proc.devRef .tc main_arg7) (ix1 l)) (fun l => V (Proc.devRef .tc main_arg8) (ix1 l))
      (fun i l => V (Proc.devRef .tc main_arg5) (ix2 i l)) (fun i => V (Proc.devRef .tc main_arg6) (ix1 i)) (fun i k => V (Proc.devRef .tc main_arg14) (ix2 i k)) (V (Proc.devRef .tc main_arg15) (ix1 0)) j := by
  unfold res_main_v46 res_main_call1_v5 res_main_call1_v8
  clean_types
  pointwise
  simp only [v16_at, show (⟨r.val % 10000, Nat.mod_lt _ (by norm_num)⟩ : Fin 10000) = n from Fin.ext (by show r.val % 10000 = n.val; have := n.isLt; omega)]
  rfl

end Cert.ReferenceIdeal.Own
-- ==== Proof.RefRec.lean ====
module

public import proofs.«01_k».proof.Proof.RefExt
public import proofs.«01_k».proof.Proof.Rec

@[expose] public section

set_option maxRecDepth 16384

noncomputable section

namespace Cert.ReferenceIdeal.Own

open Cert.ReferenceIdeal Cert.ReferenceIdeal.Gen Cert.ReferenceIdeal.Value
open Idealize.ShloMosaic Idealize.ShloMosaic.TcCoe Idealize.ShloMosaic.StableHlo Idealize.ShloMosaic.Tactic

variable (V : Valuation τ sig (Elt Ideal))

/-- The features' part of the last linear map, as the reference computes it. -/
def ftcOf (n : Fin 10000) (j : Fin 64) : EReal :=
  Feat.ftc (Feat.feat (fun l => Feat.normR (fun k => aggOf V k l) n) (fun l => V (Proc.devRef .tc main_arg7) (ix1 l)) (fun l => V (Proc.devRef .tc main_arg8) (ix1 l))
      (fun i l => V (Proc.devRef .tc main_arg5) (ix2 i l)) (fun i => V (Proc.devRef .tc main_arg6) (ix1 i)) (fun i k => V (Proc.devRef .tc main_arg14) (ix2 i k)) (V (Proc.devRef .tc main_arg15) (ix1 0)))
    (fun i k => V (Proc.devRef .tc main_arg16) (ix2 i (⟨64 + k.val, by omega⟩ : Fin 128))) (fun i => V (Proc.devRef .tc main_arg17) (ix1 i)) j

/-- The state of batch element `b` after `t` steps, off the arguments. -/
def stateOf (b : Fin 4) : ℕ → Fin 10000 → Fin 64 → EReal :=
  Step.state (fun k q => V (Proc.devRef .tc main_arg10) (ix2 (⟨1 + k.val, by omega⟩ : Fin 65) q)) (fun q => V (Proc.devRef .tc main_arg10) (ix2 (0 : Fin 65) q)) (fun q => V (Proc.devRef .tc main_arg11) (ix1 q))
    (fun k q => V (Proc.devRef .tc main_arg12) (ix2 (⟨1 + k.val, by omega⟩ : Fin 65) q)) (fun q => V (Proc.devRef .tc main_arg12) (ix2 (0 : Fin 65) q)) (fun q => V (Proc.devRef .tc main_arg13) (ix1 q))
    (fun k q => V (Proc.devRef .tc main_arg16) (ix2 q (⟨k.val, by omega⟩ : Fin 128))) (ftcOf V)
    (fun t n => V (Proc.devRef .tc main_arg2) (ix3 b (⟨t % 12, Nat.mod_lt _ (by norm_num)⟩ : Fin 12) n))

/-- One step of the reference, by rows, with the arguments' weights. -/
def stepRows (inp : FVec Ideal S4x10000 .f32) (h : FVec Ideal S4x640000 .f32) : FVec Ideal S40000x64 .f32 :=
  refNew inp h (refRU inp h (V (Proc.devRef .tc main_arg10)) (V (Proc.devRef .tc main_arg11))) (res_main_v46 V) (V (Proc.devRef .tc main_arg12)) (V (Proc.devRef .tc main_arg13)) (V (Proc.devRef .tc main_arg16)) (V (Proc.devRef .tc main_arg17))

/-- The second half of the last linear map on one row of features. -/
theorem ftc_at (ft : FVec Ideal S40000x64 .f32) (wl : FVec Ideal S64x128 .f32) (bl : FVec Ideal S64 .f32) (g : Fin 64 → EReal) (r : Fin 40000) (hg : ∀ k : Fin 64, ft (ix2 r k) = g k) (q : Fin 64) :
    ∑ k : Fin 64, ft (ix2 r k) * wl (ix2 q (⟨64 + k.val, by omega⟩ : Fin 128)) + bl (ix1 q) = Feat.ftc g (fun i k => wl (ix2 i (⟨64 + k.val, by omega⟩ : Fin 128))) (fun i => bl (ix1 i)) q := by
  simp only [hg]
  rfl

/-- One step of the reference takes the state after `t` steps to the state after `t + 1`. -/
theorem stepRows_at (t : ℕ) (inp : FVec Ideal S4x10000 .f32) (h : FVec Ideal S4x640000 .f32) (b : Fin 4)
    (hi : ∀ n : Fin 10000, inp (ix2 b n) = V (Proc.devRef .tc main_arg2) (ix3 b (⟨t % 12, Nat.mod_lt _ (by norm_num)⟩ : Fin 12) n))
    (hh : ∀ (n : Fin 10000) (k : Fin 64) (p : Fin 640000), p.val = n.val * 64 + k.val → h (ix2 b p) = stateOf V b t n k)
    (n : Fin 10000) (j : Fin 64) (r : Fin 40000) (hr : r.val = 10000 * b.val + n.val) :
    stepRows V inp h (ix2 r j) = stateOf V b (t + 1) n j := by
  unfold stepRows
  rw [refStep_at _ _ _ _ _ _ _ _ _ b n j r hr]
  have hs : ∀ (n : Fin 10000) (k : Fin 64), h (ix2 b (⟨n.val * 64 + k.val, by omega⟩ : Fin 640000)) = stateOf V b t n k := fun n k => hh n k _ rfl
  have hf := fun (n : Fin 10000) (q : Fin 64) => ftc_at (res_main_v46 V) (V (Proc.devRef .tc main_arg16)) (V (Proc.devRef .tc main_arg17)) _ (⟨10000 * b.val + n.val, by omega⟩ : Fin 40000) (v46_at V b n _ rfl) q
  simp only [hs, hi, hf]
  rfl

/-- The flat state is the rows' state. -/
theorem flat_at (x : FVec Ideal S40000x64 .f32) (b : Fin 4) (f : Fin 10000 → Fin 64 → EReal)
    (hx : ∀ (n : Fin 10000) (j : Fin 64) (r : Fin 40000), r.val = 10000 * b.val + n.val → x (ix2 r j) = f n j)
    (n : Fin 10000) (k : Fin 64) (p : Fin 640000) (hp : p.val = n.val * 64 + k.val) :
    (shapeCast S4x640000 x shapeCasts_S40000x64_S4x640000 : FVec Ideal S4x640000 .f32) (ix2 b p) = f n k := by
  have hp' : n.val * 64 + k.val < 640000 := by omega
  obtain rfl : p = ⟨n.val * 64 + k.val, hp'⟩ := Fin.ext hp
  pointwise
  exact hx n k _ (by show b.val * 10000 + (n.val * 64 + k.val) / 64 = 10000 * b.val + n.val; have := k.isLt; omega)

/-- The first state is zero. -/
theorem v47_at (b : Fin 4) (n : Fin 10000) (k : Fin 64) (p : Fin 640000) (_ : p.val = n.val * 64 + k.val) : (res_main_v47 V (ix2 b p) : EReal) = stateOf V b 0 n k := by
  unfold res_main_v47
  pointwise
  rfl

/-- The inputs of step 0. -/
theorem v49_at (b : Fin 4) (n : Fin 10000) : (res_main_v49 V (ix2 b n) : EReal) = V (Proc.devRef .tc main_arg2) (ix3 b (⟨0 % 12, Nat.mod_lt _ (by norm_num)⟩ : Fin 12) n) := by
  unfold res_main_v49
  pointwise

theorem v90_eq : res_main_v90 V = shapeCast S4x640000 (stepRows V (res_main_v49 V) (res_main_v47 V)) shapeCasts_S40000x64_S4x640000 := rfl

/-- The state after step 0. -/
theorem v90_at (b : Fin 4) (n : Fin 10000) (k : Fin 64) (p : Fin 640000) (hp : p.val = n.val * 64 + k.val) : (res_main_v90 V (ix2 b p) : EReal) = stateOf V b 1 n k := by
  rw [v90_eq]
  exact flat_at _ b _ (stepRows_at V 0 _ _ b (v49_at V b) (v47_at V b)) n k p hp

/-- The inputs of step 1. -/
theorem v93_at (b : Fin 4) (n : Fin 10000) : (res_main_v93 V (ix2 b n) : EReal) = V (Proc.devRef .tc main_arg2) (ix3 b (⟨1 % 12, Nat.mod_lt _ (by norm_num)⟩ : Fin 12) n) := by
  unfold res_main_v93
  pointwise

theorem v134_eq : res_main_v134 V = shapeCast S4x640000 (stepRows V (res_main_v93 V) (res_main_v90 V)) shapeCasts_S40000x64_S4x640000 := rfl

/-- The state after step 1. -/
theorem v134_at (b : Fin 4) (n : Fin 10000) (k : Fin 64) (p : Fin 640000) (hp : p.val = n.val * 64 + k.val) : (res_main_v134 V (ix2 b p) : EReal) = stateOf V b 2 n k := by
  rw [v134_eq]
  exact flat_at _ b _ (stepRows_at V 1 _ _ b (v93_at V b) (v90_at V b)) n k p hp

/-- The inputs of step 2. -/
theorem v137_at (b : Fin 4) (n : Fin 10000) : (res_main_v137 V (ix2 b n) : EReal) = V (Proc.devRef .tc main_arg2) (ix3 b (⟨2 % 12, Nat.mod_lt _ (by norm_num)⟩ : Fin 12) n) := by
  unfold res_main_v137
  pointwise

theorem v178_eq : res_main_v178 V = shapeCast S4x640000 (stepRows V (res_main_v137 V) (res_main_v134 V)) shapeCasts_S40000x64_S4x640000 := rfl

/-- The state after step 2. -/
theorem v178_at (b : Fin 4) (n : Fin 10000) (k : Fin 64) (p : Fin 640000) (hp : p.val = n.val * 64 + k.val) : (res_main_v178 V (ix2 b p) : EReal) = stateOf V b 3 n k := by
  rw [v178_eq]
  exact flat_at _ b _ (stepRows_at V 2 _ _ b (v137_at V b) (v134_at V b)) n k p hp

/-- The inputs of step 3. -/
theorem v181_at (b : Fin 4) (n : Fin 10000) : (res_main_v181 V (ix2 b n) : EReal) = V (Proc.devRef .tc main_arg2) (ix3 b (⟨3 % 12, Nat.mod_lt _ (by norm_num)⟩ : Fin 12) n) := by
  unfold res_main_v181
  pointwise

theorem v222_eq : res_main_v222 V = shapeCast S4x640000 (stepRows V (res_main_v181 V) (res_main_v178 V)) shapeCasts_S40000x64_S4x640000 := rfl

/-- The state after step 3. -/
theorem v222_at (b : Fin 4) (n : Fin 10000) (k : Fin 64) (p : Fin 640000) (hp : p.val = n.val * 64 + k.val) : (res_main_v222 V (ix2 b p) : EReal) = stateOf V b 4 n k := by
  rw [v222_eq]
  exact flat_at _ b _ (stepRows_at V 3 _ _ b (v181_at V b) (v178_at V b)) n k p hp

/-- The inputs of step 4. -/
theorem v225_at (b : Fin 4) (n : Fin 10000) : (res_main_v225 V (ix2 b n) : EReal) = V (Proc.devRef .tc main_arg2) (ix3 b (⟨4 % 12, Nat.mod_lt _ (by norm_num)⟩ : Fin 12) n) := by
  unfold res_main_v225
  pointwise

theorem v266_eq : res_main_v266 V = shapeCast S4x640000 (stepRows V (res_main_v225 V) (res_main_v222 V)) shapeCasts_S40000x64_S4x640000 := rfl

/-- The state after step 4. -/
theorem v266_at (b : Fin 4) (n : Fin 10000) (k : Fin 64) (p : Fin 640000) (hp : p.val = n.val * 64 + k.val) : (res_main_v266 V (ix2 b p) : EReal) = stateOf V b 5 n k := by
  rw [v266_eq]
  exact flat_at _ b _ (stepRows_at V 4 _ _ b (v225_at V b) (v222_at V b)) n k p hp

/-- The inputs of step 5. -/
theorem v269_at (b : Fin 4) (n : Fin 10000) : (res_main_v269 V (ix2 b n) : EReal) = V (Proc.devRef .tc main_arg2) (ix3 b (⟨5 % 12, Nat.mod_lt _ (by norm_num)⟩ : Fin 12) n) := by
  unfold res_main_v269
  pointwise

theorem v310_eq : res_main_v310 V = shapeCast S4x640000 (stepRows V (res_main_v269 V) (res_main_v266 V)) shapeCasts_S40000x64_S4x640000 := rfl

/-- The state after step 5. -/
theorem v310_at (b : Fin 4) (n : Fin 10000) (k : Fin 64) (p : Fin 640000) (hp : p.val = n.val * 64 + k.val) : (res_main_v310 V (ix2 b p) : EReal) = stateOf V b 6 n k := by
  rw [v310_eq]
  exact flat_at _ b _ (stepRows_at V 5 _ _ b (v269_at V b) (v266_at V b)) n k p hp

/-- The inputs of step 6. -/
theorem v313_at (b : Fin 4) (n : Fin 10000) : (res_main_v313 V (ix2 b n) : EReal) = V (Proc.devRef .tc main_arg2) (ix3 b (⟨6 % 12, Nat.mod_lt _ (by norm_num)⟩ : Fin 12) n) := by
  unfold res_main_v313
  pointwise

theorem v354_eq : res_main_v354 V = shapeCast S4x640000 (stepRows V (res_main_v313 V) (res_main_v310 V)) shapeCasts_S40000x64_S4x640000 := rfl

/-- The state after step 6. -/
theorem v354_at (b : Fin 4) (n : Fin 10000) (k : Fin 64) (p : Fin 640000) (hp : p.val = n.val * 64 + k.val) : (res_main_v354 V (ix2 b p) : EReal) = stateOf V b 7 n k := by
  rw [v354_eq]
  exact flat_at _ b _ (stepRows_at V 6 _ _ b (v313_at V b) (v310_at V b)) n k p hp

/-- The inputs of step 7. -/
theorem v357_at (b : Fin 4) (n : Fin 10000) : (res_main_v357 V (ix2 b n) : EReal) = V (Proc.devRef .tc main_arg2) (ix3 b (⟨7 % 12, Nat.mod_lt _ (by norm_num)⟩ : Fin 12) n) := by
  unfold res_main_v357
  pointwise

theorem v398_eq : res_main_v398 V = shapeCast S4x640000 (stepRows V (res_main_v357 V) (res_main_v354 V)) shapeCasts_S40000x64_S4x640000 := rfl

/-- The state after step 7. -/
theorem v398_at (b : Fin 4) (n : Fin 10000) (k : Fin 64) (p : Fin 640000) (hp : p.val = n.val * 64 + k.val) : (res_main_v398 V (ix2 b p) : EReal) = stateOf V b 8 n k := by
  rw [v398_eq]
  exact flat_at _ b _ (stepRows_at V 7 _ _ b (v357_at V b) (v354_at V b)) n k p hp

/-- The inputs of step 8. -/
theorem v401_at (b : Fin 4) (n : Fin 10000) : (res_main_v401 V (ix2 b n) : EReal) = V (Proc.devRef .tc main_arg2) (ix3 b (⟨8 % 12, Nat.mod_lt _ (by norm_num)⟩ : Fin 12) n) := by
  unfold res_main_v401
  pointwise

theorem v442_eq : res_main_v442 V = shapeCast S4x640000 (stepRows V (res_main_v401 V) (res_main_v398 V)) shapeCasts_S40000x64_S4x640000 := rfl

/-- The state after step 8. -/
theorem v442_at (b : Fin 4) (n : Fin 10000) (k : Fin 64) (p : Fin 640000) (hp : p.val = n.val * 64 + k.val) : (res_main_v442 V (ix2 b p) : EReal) = stateOf V b 9 n k := by
  rw [v442_eq]
  exact flat_at _ b _ (stepRows_at V 8 _ _ b (v401_at V b) (v398_at V b)) n k p hp

/-- The inputs of step 9. -/
theorem v445_at (b : Fin 4) (n : Fin 10000) : (res_main_v445 V (ix2 b n) : EReal) = V (Proc.devRef .tc main_arg2) (ix3 b (⟨9 % 12, Nat.mod_lt _ (by norm_num)⟩ : Fin 12) n) := by
  unfold res_main_v445
  pointwise

theorem v486_eq : res_main_v486 V = shapeCast S4x640000 (stepRows V (res_main_v445 V) (res_main_v442 V)) shapeCasts_S40000x64_S4x640000 := rfl

/-- The state after step 9. -/
theorem v486_at (b : Fin 4) (n : Fin 10000) (k : Fin 64) (p : Fin 640000) (hp : p.val = n.val * 64 + k.val) : (res_main_v486 V (ix2 b p) : EReal) = stateOf V b 10 n k := by
  rw [v486_eq]
  exact flat_at _ b _ (stepRows_at V 9 _ _ b (v445_at V b) (v442_at V b)) n k p hp

/-- The inputs of step 10. -/
theorem v489_at (b : Fin 4) (n : Fin 10000) : (res_main_v489 V (ix2 b n) : EReal) = V (Proc.devRef .tc main_arg2) (ix3 b (⟨10 % 12, Nat.mod_lt _ (by norm_num)⟩ : Fin 12) n) := by
  unfold res_main_v489
  pointwise

theorem v530_eq : res_main_v530 V = shapeCast S4x640000 (stepRows V (res_main_v489 V) (res_main_v486 V)) shapeCasts_S40000x64_S4x640000 := rfl

/-- The state after step 10. -/
theorem v530_at (b : Fin 4) (n : Fin 10000) (k : Fin 64) (p : Fin 640000) (hp : p.val = n.val * 64 + k.val) : (res_main_v530 V (ix2 b p) : EReal) = stateOf V b 11 n k := by
  rw [v530_eq]
  exact flat_at _ b _ (stepRows_at V 10 _ _ b (v489_at V b) (v486_at V b)) n k p hp

/-- The inputs of step 11. -/
theorem v533_at (b : Fin 4) (n : Fin 10000) : (res_main_v533 V (ix2 b n) : EReal) = V (Proc.devRef .tc main_arg2) (ix3 b (⟨11 % 12, Nat.mod_lt _ (by norm_num)⟩ : Fin 12) n) := by
  unfold res_main_v533
  pointwise

/-- The reference's result at an index: the state after twelve steps. -/
theorem last_at (b : Fin 4) (n : Fin 10000) (j : Fin 64) :
    (shapeCast S4x10000x64 (shapeCast S4x640000 (stepRows V (res_main_v533 V) (res_main_v530 V)) shapeCasts_S40000x64_S4x640000) shapeCasts_S4x640000_S4x10000x64 : FVec Ideal S4x10000x64 .f32) (ix3 b n j) = stateOf V b 12 n j := by
  have h := stepRows_at V 11 _ _ b (v533_at V b) (v530_at V b)
  generalize stepRows V (res_main_v533 V) (res_main_v530 V) = x at h ⊢
  pointwise
  exact h n j _ (by show b.val * 10000 + n.val = 10000 * b.val + n.val; omega)

end Cert.ReferenceIdeal.Own
-- ==== Proof.Pre.lean ====
module

public import proofs.«01_k».proof.Defs
public import Idealize.ShloMosaic.Lib.Pointwise
public import Idealize.ShloMosaic.Lib.IdealHost

@[expose] public section

set_option maxRecDepth 16384

noncomputable section

namespace Cert.Pre_inputs_finite.Own

open Cert.Pre_inputs_finite
open Idealize.ShloMosaic Idealize.ShloMosaic.Tactic

theorem facts : Cert.Pre_inputs_finite.Facts where
  bcast_S_S10000x128 := by decide
  bcast_S_S10000x10000 := by decide
  bcast_S_S64x128 := by decide
  bcast_S_S64 := by decide
  bcast_S_S1 := by decide

theorem inf_eq : Ideal.ofBits .f32 0x7F800000#32 = ⊤ := by
  simp [Ideal.ofBits, Ideal.ieee]

/-- A number of finite magnitude is real. -/
theorem real_of (x : EReal) (h : BitVec.ofBool (decide (max x (-x) < Ideal.ofBits .f32 0x7F800000#32)) = 1#1) : ∃ r : ℝ, x = (r : EReal) := by
  rw [inf_eq] at h
  induction x with
  | bot => simp at h
  | top => simp at h
  | coe r => exact ⟨r, rfl⟩

/-- An array whose comparison holds everywhere has real entries. -/
theorem real_at {s : Shape} (hb : S_.BroadcastsInDim s (![] : Fin 0 → Fin s.rank)) (x : FVec Ideal s .f32)
    (h : cmpf .olt (Host.absf x) (broadcastInDim s ![] hb (constant S_ .f32 0x7F800000#32)) = fun _ => 1#1) (i : s.Idx) :
    ∃ r : ℝ, (x i : EReal) = (r : EReal) :=
  real_of (x i) (congrFun h i)

end Cert.Pre_inputs_finite.Own
-- ==== Proof.Value.lean ====
module

public import proofs.«01_k».proof.Proof.GruRec
public import proofs.«01_k».proof.Proof.RefRec
public import proofs.«01_k».proof.Proof.Pre

@[expose] public section

set_option maxRecDepth 16384

noncomputable section

namespace Cert.Value

open Idealize.ShloMosaic Idealize.ShloMosaic.TcCoe Idealize.ShloMosaic.StableHlo

variable (m : (ℓ : Loc Cert.KernelIdeal.nD Cert.KernelIdeal.τ Cert.KernelIdeal.sig) → Buf (Elt Ideal) ℓ) (c : Dev Cert.KernelIdeal.nD)

/-- Under the precondition the aggregated rows are real. -/
theorem agg_real (h : Pre_KernelIdeal_inputs_finite (hPre_inputs_finite := Cert.Pre_inputs_finite.Own.facts) m) (n : Fin 10000) (j : Fin 64) :
    ∃ r : ℝ, Cert.KernelIdeal.Own.aggOf m c n j = (r : EReal) := by
  obtain ⟨h0, h1, h3, h4, h9⟩ := h c
  refine Feat.real_agg _ _ _ (fun n k => Cert.Pre_inputs_finite.Own.real_at _ _ h1 (ix2 n k)) (Cert.Pre_inputs_finite.Own.real_at _ _ h9 (ix1 0)) (fun n j => ?_) n j
  exact Feat.real_hid _ _ _ (fun n k => Cert.Pre_inputs_finite.Own.real_at _ _ h0 (ix2 n k)) (fun j k => Cert.Pre_inputs_finite.Own.real_at _ _ h3 (ix2 j k))
    (fun j => Cert.Pre_inputs_finite.Own.real_at _ _ h4 (ix1 j)) n j

variable (V : Valuation Cert.ReferenceIdeal.τ Cert.ReferenceIdeal.sig (Elt Ideal))

/-- The reference's arguments are the kernel's. -/
structure Agree : Prop where
  a0 : V (Proc.devRef .tc Cert.ReferenceIdeal.main_arg0) = m ((c : Thread Cert.KernelIdeal.nD Cert.KernelIdeal.τ).loc Cert.KernelIdeal.main_arg0)
  a1 : V (Proc.devRef .tc Cert.ReferenceIdeal.main_arg1) = m ((c : Thread Cert.KernelIdeal.nD Cert.KernelIdeal.τ).loc Cert.KernelIdeal.main_arg1)
  a2 : V (Proc.devRef .tc Cert.ReferenceIdeal.main_arg2) = m ((c : Thread Cert.KernelIdeal.nD Cert.KernelIdeal.τ).loc Cert.KernelIdeal.main_arg2)
  a3 : V (Proc.devRef .tc Cert.ReferenceIdeal.main_arg3) = m ((c : Thread Cert.KernelIdeal.nD Cert.KernelIdeal.τ).loc Cert.KernelIdeal.main_arg3)
  a4 : V (Proc.devRef .tc Cert.ReferenceIdeal.main_arg4) = m ((c : Thread Cert.KernelIdeal.nD Cert.KernelIdeal.τ).loc Cert.KernelIdeal.main_arg4)
  a5 : V (Proc.devRef .tc Cert.ReferenceIdeal.main_arg5) = m ((c : Thread Cert.KernelIdeal.nD Cert.KernelIdeal.τ).loc Cert.KernelIdeal.main_arg5)
  a6 : V (Proc.devRef .tc Cert.ReferenceIdeal.main_arg6) = m ((c : Thread Cert.KernelIdeal.nD Cert.KernelIdeal.τ).loc Cert.KernelIdeal.main_arg6)
  a7 : V (Proc.devRef .tc Cert.ReferenceIdeal.main_arg7) = m ((c : Thread Cert.KernelIdeal.nD Cert.KernelIdeal.τ).loc Cert.KernelIdeal.main_arg7)
  a8 : V (Proc.devRef .tc Cert.ReferenceIdeal.main_arg8) = m ((c : Thread Cert.KernelIdeal.nD Cert.KernelIdeal.τ).loc Cert.KernelIdeal.main_arg8)
  a9 : V (Proc.devRef .tc Cert.ReferenceIdeal.main_arg9) = m ((c : Thread Cert.KernelIdeal.nD Cert.KernelIdeal.τ).loc Cert.KernelIdeal.main_arg9)
  a10 : V (Proc.devRef .tc Cert.ReferenceIdeal.main_arg10) = m ((c : Thread Cert.KernelIdeal.nD Cert.KernelIdeal.τ).loc Cert.KernelIdeal.main_arg10)
  a11 : V (Proc.devRef .tc Cert.ReferenceIdeal.main_arg11) = m ((c : Thread Cert.KernelIdeal.nD Cert.KernelIdeal.τ).loc Cert.KernelIdeal.main_arg11)
  a12 : V (Proc.devRef .tc Cert.ReferenceIdeal.main_arg12) = m ((c : Thread Cert.KernelIdeal.nD Cert.KernelIdeal.τ).loc Cert.KernelIdeal.main_arg12)
  a13 : V (Proc.devRef .tc Cert.ReferenceIdeal.main_arg13) = m ((c : Thread Cert.KernelIdeal.nD Cert.KernelIdeal.τ).loc Cert.KernelIdeal.main_arg13)
  a14 : V (Proc.devRef .tc Cert.ReferenceIdeal.main_arg14) = m ((c : Thread Cert.KernelIdeal.nD Cert.KernelIdeal.τ).loc Cert.KernelIdeal.main_arg14)
  a15 : V (Proc.devRef .tc Cert.ReferenceIdeal.main_arg15) = m ((c : Thread Cert.KernelIdeal.nD Cert.KernelIdeal.τ).loc Cert.KernelIdeal.main_arg15)
  a16 : V (Proc.devRef .tc Cert.ReferenceIdeal.main_arg16) = m ((c : Thread Cert.KernelIdeal.nD Cert.KernelIdeal.τ).loc Cert.KernelIdeal.main_arg16)
  a17 : V (Proc.devRef .tc Cert.ReferenceIdeal.main_arg17) = m ((c : Thread Cert.KernelIdeal.nD Cert.KernelIdeal.τ).loc Cert.KernelIdeal.main_arg17)

variable {m c V}

theorem hid_eq (e : Agree m c V) : Cert.ReferenceIdeal.Own.hidOf V = Cert.KernelIdeal.Own.hidOf m c := by
  unfold Cert.ReferenceIdeal.Own.hidOf Cert.KernelIdeal.Own.hidOf
  rw [e.a0, e.a3, e.a4]

theorem agg_eq (e : Agree m c V) : Cert.ReferenceIdeal.Own.aggOf V = Cert.KernelIdeal.Own.aggOf m c := by
  unfold Cert.ReferenceIdeal.Own.aggOf Cert.KernelIdeal.Own.aggOf
  rw [hid_eq e, e.a1, e.a9]

theorem ftc_eq (e : Agree m c V) (h : ∀ n j, ∃ r : ℝ, Cert.KernelIdeal.Own.aggOf m c n j = (r : EReal)) : Cert.ReferenceIdeal.Own.ftcOf V = Cert.KernelIdeal.Own.ftcOf m c := by
  funext n j
  unfold Cert.ReferenceIdeal.Own.ftcOf Cert.KernelIdeal.Own.ftcOf
  rw [agg_eq e, e.a5, e.a6, e.a7, e.a8, e.a14, e.a15, e.a16, e.a17,
    show (fun l => Feat.normK (fun k => Cert.KernelIdeal.Own.aggOf m c k l) n) = (fun l => Feat.normR (fun k => Cert.KernelIdeal.Own.aggOf m c k l) n) from
      funext fun l => Feat.norm_eq _ (fun n => h n l) n]

theorem state_eq (e : Agree m c V) (h : ∀ n j, ∃ r : ℝ, Cert.KernelIdeal.Own.aggOf m c n j = (r : EReal)) (b : Fin 4) : Cert.ReferenceIdeal.Own.stateOf V b = Cert.KernelIdeal.Own.stateOf m c b := by
  unfold Cert.ReferenceIdeal.Own.stateOf Cert.KernelIdeal.Own.stateOf
  rw [ftc_eq e h, e.a2, e.a10, e.a11, e.a12, e.a13, e.a16]

/-- The two results are equal. -/
theorem value_eq (e : Agree m c V) (h : ∀ n j, ∃ r : ℝ, Cert.KernelIdeal.Own.aggOf m c n j = (r : EReal)) :
    (shapeCast Cert.ReferenceIdeal.S4x10000x64 (shapeCast Cert.ReferenceIdeal.S4x640000 (Cert.ReferenceIdeal.Own.stepRows V (Cert.ReferenceIdeal.Value.res_main_v533 V) (Cert.ReferenceIdeal.Value.res_main_v530 V)) Cert.ReferenceIdeal.Gen.shapeCasts_S40000x64_S4x640000) Cert.ReferenceIdeal.Gen.shapeCasts_S4x640000_S4x10000x64 : FVec Ideal Cert.ReferenceIdeal.S4x10000x64 .f32)
      = Cert.KernelIdeal.Gen.V5 m (Cert.KernelIdeal.Own.left m) c Cert.KernelIdeal.main_v20 := by
  funext i
  have hi : i = ix3 (n0 := 4) (n1 := 10000) (n2 := 64) (i 0) (i 1) (i 2) := by
    funext a
    match a with
    | ⟨0, _⟩ => rfl
    | ⟨1, _⟩ => rfl
    | ⟨2, _⟩ => rfl
  rw [hi]
  refine (Cert.ReferenceIdeal.Own.last_at V (i 0) (i 1) (i 2)).trans ?_
  refine (congrArg (fun f : ℕ → Fin 10000 → Fin 64 → EReal => f 12 (i 1) (i 2)) (state_eq e h (i 0))).trans ?_
  exact (Cert.KernelIdeal.Own.out20_at m c (i 0) (i 1) (i 2)).symm

end Cert.Value
-- ==== Proof.lean ====
/- The claims of `Cert.Claim` (proofs.«01_k».proof.Defs), put together from the modules under Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.BitsRun
public import proofs.«01_k».proof.Proof.Value

@[expose] public section

noncomputable section

namespace Cert.Proof

open Idealize.ShloMosaic Idealize.ShloMosaic.StableHlo Idealize.SL.Sem

/-- The reference has no semaphore. -/
theorem reference_no_sem : ∀ sm : SemLoc Cert.ReferenceIdeal.sig, False := by decide

theorem frame_Kernel : quiescent_Kernel (hKernel := Cert.Kernel.Gen.facts) := fun m g _ =>
  (θ_run Cert.Kernel.defs _ _).mono (fun _ h => ⟨fun c => by
    obtain ⟨h0, h1, h2, h3, h4, h5, h6, h7, h8, h9, h10, h11, h12, h13, h14, h15, h16, h17, -⟩ := h.1 c
    exact ⟨h0, h1, h2, h3, h4, h5, h6, h7, h8, h9, h10, h11, h12, h13, h14, h15, h16, h17⟩, h.2⟩) (Cert.Kernel.Own.run m g)

theorem frame_KernelIdeal : quiescent_KernelIdeal (hKernelIdeal := Cert.KernelIdeal.Gen.facts) := fun m g _ =>
  (θ_run Cert.KernelIdeal.defs _ _).mono (fun _ h => ⟨fun c => by
    obtain ⟨h0, h1, h2, h3, h4, h5, h6, h7, h8, h9, h10, h11, h12, h13, h14, h15, h16, h17, -⟩ := h.1 c
    exact ⟨h0, h1, h2, h3, h4, h5, h6, h7, h8, h9, h10, h11, h12, h13, h14, h15, h16, h17⟩, h.2⟩) (Cert.KernelIdeal.Own.run m g)

theorem frame_ReferenceIdeal : quiescent_ReferenceIdeal (hReferenceIdeal := Cert.ReferenceIdeal.Gen.facts) := fun m g _ =>
  (θ_run Cert.ReferenceIdeal.defs _ _).mono (fun _ h => ⟨fun c => (h c).2, funext fun s => (reference_no_sem s.2).elim⟩) (Cert.ReferenceIdeal.Value.run m g)

theorem frame_KernelIdeal_pre : quiescent_KernelIdeal_pre_inputs_finite (hKernelIdeal := Cert.KernelIdeal.Gen.facts) (hPre_inputs_finite := Cert.Pre_inputs_finite.Own.facts) := fun m g _ =>
  (θ_run Cert.KernelIdeal.defs _ _).mono (fun _ h => ⟨fun c => by
    obtain ⟨h0, h1, h2, h3, h4, h5, h6, h7, h8, h9, h10, h11, h12, h13, h14, h15, h16, h17, -⟩ := h.1 c
    exact ⟨h0, h1, h2, h3, h4, h5, h6, h7, h8, h9, h10, h11, h12, h13, h14, h15, h16, h17⟩, h.2⟩) (Cert.KernelIdeal.Own.run m g)

theorem frame_ReferenceIdeal_pre : quiescent_ReferenceIdeal_pre_inputs_finite (hReferenceIdeal := Cert.ReferenceIdeal.Gen.facts) (hPre_inputs_finite := Cert.Pre_inputs_finite.Own.facts) := fun m g _ =>
  (θ_run Cert.ReferenceIdeal.defs _ _).mono (fun _ h => ⟨fun c => (h c).2, funext fun s => (reference_no_sem s.2).elim⟩) (Cert.ReferenceIdeal.Value.run m g)

/-- From equal arguments, finite where the batch norm reads them, the kernel and the reference end with the same array. -/
theorem value : algebraic_KernelIdeal_ReferenceIdeal_pre_inputs_finite (hKernelIdeal := Cert.KernelIdeal.Gen.facts) (hReferenceIdeal := Cert.ReferenceIdeal.Gen.facts)
    (hPre_inputs_finite := Cert.Pre_inputs_finite.Own.facts) := fun m g m' g' hp ha =>
  ⟨fun c => Cert.KernelIdeal.Gen.V5 m (Cert.KernelIdeal.Own.left m) c (Proc.devRef .tc Cert.KernelIdeal.main_v20),
    (θ_run Cert.KernelIdeal.defs _ _).mono (fun _ h c => by
      obtain ⟨h0, h1, h2, h3, h4, h5, h6, h7, h8, h9, h10, h11, h12, h13, h14, h15, h16, h17, hv⟩ := h.1 c
      exact ⟨hv, h0, h1, h2, h3, h4, h5, h6, h7, h8, h9, h10, h11, h12, h13, h14, h15, h16, h17⟩) (Cert.KernelIdeal.Own.run m g),
    (θ_run Cert.ReferenceIdeal.defs _ _).mono (fun _ h c => by
      obtain ⟨a0, a1, a2, a3, a4, a5, a6, a7, a8, a9, a10, a11, a12, a13, a14, a15, a16, a17⟩ := ha c
      exact ⟨(h c).1.trans (Cert.Value.value_eq (m := m) (c := c) (V := launchContents m' c) ⟨a0, a1, a2, a3, a4, a5, a6, a7, a8, a9, a10, a11, a12, a13, a14, a15, a16, a17⟩ (Cert.Value.agg_real m c hp)), (h c).2⟩)
      (Cert.ReferenceIdeal.Value.run m' g')⟩

theorem claim : Cert.Claim :=
  ⟨Cert.Kernel.Gen.facts, Cert.KernelIdeal.Gen.facts, Cert.ReferenceIdeal.Gen.facts, Cert.Pre_inputs_finite.Own.facts,
    frame_Kernel, frame_KernelIdeal, frame_KernelIdeal_pre, frame_ReferenceIdeal, frame_ReferenceIdeal_pre, trivial, value⟩

end Cert.Proof

end
